-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_v129) = v5 c
          ∧ r.2.mem ((c.tc : Thread Cert.ReferenceIdeal.nD Cert.ReferenceIdeal.τ).loc Cert.ReferenceIdeal.main_v93) = v6 c
          ∧ r.2.mem ((c.tc : Thread Cert.ReferenceIdeal.nD Cert.ReferenceIdeal.τ).loc Cert.ReferenceIdeal.main_v130) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x6144 : Shape := ⟨3, ![2, 128, 6144]⟩
abbrev S2x128x16384 : Shape := ⟨3, ![2, 128, 16384]⟩
abbrev S640x3072 : Shape := ⟨2, ![640, 3072]⟩
abbrev S640x24 : Shape := ⟨2, ![640, 24]⟩
abbrev S16384x640 : Shape := ⟨2, ![16384, 640]⟩
abbrev S16384x5 : Shape := ⟨2, ![16384, 5]⟩
abbrev S16384x6144 : Shape := ⟨2, ![16384, 6144]⟩
abbrev S16384 : Shape := ⟨1, ![16384]⟩
abbrev S256x6144 : Shape := ⟨2, ![256, 6144]⟩
abbrev S256x16384 : Shape := ⟨2, ![256, 16384]⟩
abbrev S24x640 : Shape := ⟨2, ![24, 640]⟩
abbrev S5x16384 : Shape := ⟨2, ![5, 16384]⟩
abbrev S1x16384 : Shape := ⟨2, ![1, 16384]⟩
abbrev S256x256 : Shape := ⟨2, ![256, 256]⟩
abbrev S256x640 : Shape := ⟨2, ![256, 640]⟩
abbrev S5x256 : Shape := ⟨2, ![5, 256]⟩
abbrev S1x256 : Shape := ⟨2, ![1, 256]⟩
abbrev S24x640x256 : Shape := ⟨3, ![24, 640, 256]⟩
abbrev S24x256x256 : Shape := ⟨3, ![24, 256, 256]⟩
abbrev S8x128 : Shape := ⟨2, ![8, 128]⟩
abbrev S256x128 : Shape := ⟨2, ![256, 128]⟩
abbrev S1x256x256 : Shape := ⟨3, ![1, 256, 256]⟩
abbrev S640x128 : Shape := ⟨2, ![640, 128]⟩
abbrev S1x640 : Shape := ⟨2, ![1, 640]⟩
abbrev S128x640 : Shape := ⟨2, ![128, 640]⟩
abbrev S640x256 : Shape := ⟨2, ![640, 256]⟩
abbrev S1x640x256 : Shape := ⟨3, ![1, 640, 256]⟩
abbrev S128x256 : Shape := ⟨2, ![128, 256]⟩
abbrev S256 : Shape := ⟨1, ![256]⟩
abbrev S256x1 : Shape := ⟨2, ![256, 1]⟩

abbrev nBuf : Space → Nat
  | .hbm => 27
  | .vmem => 42
  | .smem => 0
  | _ => 0

abbrev bufTy : (tb : Table) → Fin (tcTables nBuf tb) → BufTy
  | .hbm, ⟨0, _⟩ => ⟨S2x128x6144, .bf16⟩
  | .hbm, ⟨1, _⟩ => ⟨S2x128x16384, .bf16⟩
  | .hbm, ⟨2, _⟩ => ⟨S640x3072, .i8⟩
  | .hbm, ⟨3, _⟩ => ⟨S640x24, .f32⟩
  | .hbm, ⟨4, _⟩ => ⟨S640x24, .f32⟩
  | .hbm, ⟨5, _⟩ => ⟨S16384x640, .i8⟩
  | .hbm, ⟨6, _⟩ => ⟨S16384x5, .f32⟩
  | .hbm, ⟨7, _⟩ => ⟨S16384x640, .i8⟩
  | .hbm, ⟨8, _⟩ => ⟨S16384x5, .f32⟩
  | .hbm, ⟨9, _⟩ => ⟨S16384x6144, .i8⟩
  | .hbm, ⟨10, _⟩ => ⟨S16384, .f32⟩
  | .hbm, ⟨11, _⟩ => ⟨S16384x6144, .i8⟩
  | .hbm, ⟨12, _⟩ => ⟨S256x6144, .bf16⟩
  | .hbm, ⟨13, _⟩ => ⟨S256x16384, .bf16⟩
  | .hbm, ⟨14, _⟩ => ⟨S24x640, .f32⟩
  | .hbm, ⟨15, _⟩ => ⟨S24x640, .f32⟩
  | .hbm, ⟨16, _⟩ => ⟨S5x16384, .f32⟩
  | .hbm, ⟨17, _⟩ => ⟨S5x16384, .f32⟩
  | .hbm, ⟨18, _⟩ => ⟨S1x16384, .f32⟩
  | .hbm, ⟨19, _⟩ => ⟨S16384x6144, .i8⟩
  | .hbm, ⟨20, _⟩ => ⟨S1x16384, .f32⟩
  | .hbm, ⟨21, _⟩ => ⟨S16384x6144, .f32⟩
  | .hbm, ⟨22, _⟩ => ⟨S16384x640, .f32⟩
  | .hbm, ⟨23, _⟩ => ⟨S16384x640, .i8⟩
  | .hbm, ⟨24, _⟩ => ⟨S5x16384, .f32⟩
  | .hbm, ⟨25, _⟩ => ⟨S16384x640, .i8⟩
  | .hbm, ⟨26, _⟩ => ⟨S5x16384, .f32⟩
  | .local _ .vmem, ⟨0, _⟩ => ⟨S256x6144, .bf16⟩
  | .local _ .vmem, ⟨1, _⟩ => ⟨S256x256, .bf16⟩
  | .local _ .vmem, ⟨2, _⟩ => ⟨S256x256, .bf16⟩
  | .local _ .vmem, ⟨3, _⟩ => ⟨S640x3072, .i8⟩
  | .local _ .vmem, ⟨4, _⟩ => ⟨S24x640, .f32⟩
  | .local _ .vmem, ⟨5, _⟩ => ⟨S24x640, .f32⟩
  | .local _ .vmem, ⟨6, _⟩ => ⟨S256x640, .i8⟩
  | .local _ .vmem, ⟨7, _⟩ => ⟨S256x640, .i8⟩
  | .local _ .vmem, ⟨8, _⟩ => ⟨S5x256, .f32⟩
  | .local _ .vmem, ⟨9, _⟩ => ⟨S5x256, .f32⟩
  | .local _ .vmem, ⟨10, _⟩ => ⟨S256x640, .i8⟩
  | .local _ .vmem, ⟨11, _⟩ => ⟨S256x640, .i8⟩
  | .local _ .vmem, ⟨12, _⟩ => ⟨S5x256, .f32⟩
  | .local _ .vmem, ⟨13, _⟩ => ⟨S5x256, .f32⟩
  | .local _ .vmem, ⟨14, _⟩ => ⟨S256x6144, .i8⟩
  | .local _ .vmem, ⟨15, _⟩ => ⟨S256x6144, .i8⟩
  | .local _ .vmem, ⟨16, _⟩ => ⟨S1x256, .f32⟩
  | .local _ .vmem, ⟨17, _⟩ => ⟨S1x256, .f32⟩
  | .local _ .vmem, ⟨18, _⟩ => ⟨S256x6144, .i8⟩
  | .local _ .vmem, ⟨19, _⟩ => ⟨S256x6144, .i8⟩
  | .local _ .vmem, ⟨20, _⟩ => ⟨S256x6144, .i8⟩
  | .local _ .vmem, ⟨21, _⟩ => ⟨S256x6144, .i8⟩
  | .local _ .vmem, ⟨22, _⟩ => ⟨S1x256, .f32⟩
  | .local _ .vmem, ⟨23, _⟩ => ⟨S1x256, .f32⟩
  | .local _ .vmem, ⟨24, _⟩ => ⟨S256x6144, .f32⟩
  | .local _ .vmem, ⟨25, _⟩ => ⟨S256x6144, .f32⟩
  | .local _ .vmem, ⟨26, _⟩ => ⟨S256x640, .f32⟩
  | .local _ .vmem, ⟨27, _⟩ => ⟨S256x640, .f32⟩
  | .local _ .vmem, ⟨28, _⟩ => ⟨S256x640, .i8⟩
  | .local _ .vmem, ⟨29, _⟩ => ⟨S256x640, .i8⟩
  | .local _ .vmem, ⟨30, _⟩ => ⟨S5x256, .f32⟩
  | .local _ .vmem, ⟨31, _⟩ => ⟨S5x256, .f32⟩
  | .local _ .vmem, ⟨32, _⟩ => ⟨S256x640, .i8⟩
  | .local _ .vmem, ⟨33, _⟩ => ⟨S256x640, .i8⟩
  | .local _ .vmem, ⟨34, _⟩ => ⟨S5x256, .f32⟩
  | .local _ .vmem, ⟨35, _⟩ => ⟨S5x256, .f32⟩
  | .local _ .vmem, ⟨36, _⟩ => ⟨S24x640x256, .bf16⟩
  | .local _ .vmem, ⟨37, _⟩ => ⟨S24x256x256, .bf16⟩
  | .local _ .vmem, ⟨38, _⟩ => ⟨S8x128, .bf16⟩
  | .local _ .vmem, ⟨39, _⟩ => ⟨S256x640, .bf16⟩
  | .local _ .vmem, ⟨40, _⟩ => ⟨S256x6144, .f32⟩
  | .local _ .vmem, ⟨41, _⟩ => ⟨S256x128, .f32⟩
  | _, _ => ⟨S2x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_200 : BitVec 32 := 0#32
  let c24_i32_201 : BitVec 32 := 24#32
  let v480 : BitVec 32 := Scalar.addi c0_i32_200 c24_i32_201
  let c1_i32_202 : BitVec 32 := 1#32
  ⟨c0_i32_200, v480, c1_i32_202⟩
def k0_mult1 (k0_t1 : Fin k0_t1_loop.trips) : BitVec 32 :=
  let c0_i32_200 : BitVec 32 := 0#32
  let c1_i32_202 : BitVec 32 := 1#32
  let arg27 : BitVec 32 := Scf.iv c0_i32_200 c1_i32_202 k0_t1
  let c256_i32 : BitVec 32 := 256#32
  let v481 : BitVec 32 := Scalar.muli arg27 c256_i32
  v481
def k0_off1 (k0_t1 : Fin k0_t1_loop.trips) : Fin 2 → Nat :=
  let c0_204 : Index := 0#32
  let c0_i32_200 : BitVec 32 := 0#32
  let c1_i32_202 : BitVec 32 := 1#32
  let arg27 : BitVec 32 := Scf.iv c0_i32_200 c1_i32_202 k0_t1
  let c256_i32 : BitVec 32 := 256#32
  let v481 : BitVec 32 := Scalar.muli arg27 c256_i32
  let v482 : BitVec 32 := v481
  let v483 : Index := Scalar.indexCast v482
  ![0, v483.toNat]
def k0_off2 (k0_t1 : Fin k0_t1_loop.trips) : Fin 3 → Nat :=
  let c0_i32_200 : BitVec 32 := 0#32
  let c1_i32_202 : BitVec 32 := 1#32
  let arg27 : BitVec 32 := Scf.iv c0_i32_200 c1_i32_202 k0_t1
  let v489 : Index := Scalar.indexCast arg27
  let c0_205 : Index := 0#32
  let c0_206 : Index := 0#32
  ![v489.toNat, 0, 0]
def k0_mult2 (k0_t1 : Fin k0_t1_loop.trips) : BitVec 32 :=
  let c0_i32_200 : BitVec 32 := 0#32
  let c1_i32_202 : BitVec 32 := 1#32
  let arg27 : BitVec 32 := Scf.iv c0_i32_200 c1_i32_202 k0_t1
  let c128_i32 : BitVec 32 := 128#32
  let v493 : BitVec 32 := Scalar.muli arg27 c128_i32
  v493
def k0_off3 (k0_t1 : Fin k0_t1_loop.trips) : Fin 2 → Nat :=
  let c0_207 : Index := 0#32
  let c0_i32_200 : BitVec 32 := 0#32
  let c1_i32_202 : BitVec 32 := 1#32
  let arg27 : BitVec 32 := Scf.iv c0_i32_200 c1_i32_202 k0_t1
  let c128_i32 : BitVec 32 := 128#32
  let v493 : BitVec 32 := Scalar.muli arg27 c128_i32
  let v494 : BitVec 32 := v493
  let v495 : Index := Scalar.indexCast v494
  ![0, v495.toNat]
def k0_off4 (k0_t1 : Fin k0_t1_loop.trips) : Fin 2 → Nat :=
  let c0_i32_200 : BitVec 32 := 0#32
  let c1_i32_202 : BitVec 32 := 1#32
  let arg27 : BitVec 32 := Scf.iv c0_i32_200 c1_i32_202 k0_t1
  let v498 : Index := Scalar.indexCast arg27
  let c0_208 : Index := 0#32
  ![v498.toNat, 0]
def k0_off5 (k0_t1 : Fin k0_t1_loop.trips) : Fin 3 → Nat :=
  let c0_i32_200 : BitVec 32 := 0#32
  let c1_i32_202 : BitVec 32 := 1#32
  let arg27 : BitVec 32 := Scf.iv c0_i32_200 c1_i32_202 k0_t1
  let v551 : Index := Scalar.indexCast arg27
  let c0_219 : Index := 0#32
  let c0_220 : Index := 0#32
  ![v551.toNat, 0, 0]
@[reducible] def k0_t2_loop : Scf.Loop 32 :=
  let c0_i32_1 : BitVec 32 := 0#32
  let c24_i32 : BitVec 32 := 24#32
  let v4 : BitVec 32 := Scalar.addi c0_i32_1 c24_i32
  let c1_i32 : BitVec 32 := 1#32
  ⟨c0_i32_1, v4, c1_i32⟩
def k0_off6 (k0_t2 : Fin k0_t2_loop.trips) : Fin 3 → Nat :=
  let c0_i32_1 : BitVec 32 := 0#32
  let c1_i32 : BitVec 32 := 1#32
  let arg27 : BitVec 32 := Scf.iv c0_i32_1 c1_i32 k0_t2
  let v480 : Index := Scalar.indexCast arg27
  let c0_200 : Index := 0#32
  let c0_201 : Index := 0#32
  ![v480.toNat, 0, 0]
def k0_off7 (k0_t2 : Fin k0_t2_loop.trips) : Fin 3 → Nat :=
  let c0_i32_1 : BitVec 32 := 0#32
  let c1_i32 : BitVec 32 := 1#32
  let arg27 : BitVec 32 := Scf.iv c0_i32_1 c1_i32 k0_t2
  let v487 : Index := Scalar.indexCast arg27
  let c0_205 : Index := 0#32
  let c0_206 : Index := 0#32
  ![v487.toNat, 0, 0]
@[reducible] def k0_t3_loop : Scf.Loop 32 :=
  let c0_i32_183 : BitVec 32 := 0#32
  let c24_i32_184 : BitVec 32 := 24#32
  let v457 : BitVec 32 := Scalar.addi c0_i32_183 c24_i32_184
  let c1_i32_185 : BitVec 32 := 1#32
  ⟨c0_i32_183, v457, c1_i32_185⟩
def k0_mult3 (k0_t3 : Fin k0_t3_loop.trips) : BitVec 32 :=
  let c0_i32_183 : BitVec 32 := 0#32
  let c1_i32_185 : BitVec 32 := 1#32
  let arg27 : BitVec 32 := Scf.iv c0_i32_183 c1_i32_185 k0_t3
  let c256_i32 : BitVec 32 := 256#32
  let v480 : BitVec 32 := Scalar.muli arg27 c256_i32
  v480
def k0_off8 (k0_t3 : Fin k0_t3_loop.trips) : Fin 3 → Nat :=
  let c0_i32_183 : BitVec 32 := 0#32
  let c1_i32_185 : BitVec 32 := 1#32
  let arg27 : BitVec 32 := Scf.iv c0_i32_183 c1_i32_185 k0_t3
  let v483 : Index := Scalar.indexCast arg27
  let c0_202 : Index := 0#32
  let c0_203 : Index := 0#32
  ![v483.toNat, 0, 0]
def k0_off9 (k0_t3 : Fin k0_t3_loop.trips) : Fin 2 → Nat :=
  let c0_206 : Index := 0#32
  let c0_i32_183 : BitVec 32 := 0#32
  let c1_i32_185 : BitVec 32 := 1#32
  let arg27 : BitVec 32 := Scf.iv c0_i32_183 c1_i32_185 k0_t3
  let c256_i32 : BitVec 32 := 256#32
  let v480 : BitVec 32 := Scalar.muli arg27 c256_i32
  let v481 : BitVec 32 := v480
  let v489 : Index := Scalar.indexCast v481
  ![0, v489.toNat]
@[reducible] def k0_t4_loop : Scf.Loop 32 :=
  let c0_i32_196 : BitVec 32 := 0#32
  let c24_i32_197 : BitVec 32 := 24#32
  let v479 : BitVec 32 := Scalar.addi c0_i32_196 c24_i32_197
  let c1_i32_198 : BitVec 32 := 1#32
  ⟨c0_i32_196, v479, c1_i32_198⟩
def k0_mult4 (k0_t4 : Fin k0_t4_loop.trips) : BitVec 32 :=
  let c0_i32_196 : BitVec 32 := 0#32
  let c1_i32_198 : BitVec 32 := 1#32
  let arg27 : BitVec 32 := Scf.iv c0_i32_196 c1_i32_198 k0_t4
  let c256_i32 : BitVec 32 := 256#32
  let v480 : BitVec 32 := Scalar.muli arg27 c256_i32
  v480
def k0_off10 (k0_t4 : Fin k0_t4_loop.trips) : Fin 2 → Nat :=
  let c0_202 : Index := 0#32
  let c0_i32_196 : BitVec 32 := 0#32
  let c1_i32_198 : BitVec 32 := 1#32
  let arg27 : BitVec 32 := Scf.iv c0_i32_196 c1_i32_198 k0_t4
  let c256_i32 : BitVec 32 := 256#32
  let v480 : BitVec 32 := Scalar.muli arg27 c256_i32
  let v481 : BitVec 32 := v480
  let v483 : Index := Scalar.indexCast v481
  ![0, v483.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x640 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x6144 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x6144 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x6144 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6144 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x640 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x640 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S5x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x640 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S5x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S2x128x6144 : Shape := ⟨3, ![2, 128, 6144]⟩
abbrev S2x128x16384 : Shape := ⟨3, ![2, 128, 16384]⟩
abbrev S640x3072 : Shape := ⟨2, ![640, 3072]⟩
abbrev S640x24 : Shape := ⟨2, ![640, 24]⟩
abbrev S16384x640 : Shape := ⟨2, ![16384, 640]⟩
abbrev S16384x5 : Shape := ⟨2, ![16384, 5]⟩
abbrev S16384x6144 : Shape := ⟨2, ![16384, 6144]⟩
abbrev S16384 : Shape := ⟨1, ![16384]⟩
abbrev S_ : Shape := ⟨0, ![]⟩
abbrev S640x24x128 : Shape := ⟨3, ![640, 24, 128]⟩
abbrev S16384x3072x2 : Shape := ⟨3, ![16384, 3072, 2]⟩
abbrev S16384x3072x1 : Shape := ⟨3, ![16384, 3072, 1]⟩
abbrev S16384x3072 : Shape := ⟨2, ![16384, 3072]⟩
abbrev S16384x5x128 : Shape := ⟨3, ![16384, 5, 128]⟩
abbrev S16384x5x1 : Shape := ⟨3, ![16384, 5, 1]⟩
abbrev S16384x1 : Shape := ⟨2, ![16384, 1]⟩
abbrev S1x16384 : Shape := ⟨2, ![1, 16384]⟩
abbrev S5x16384 : Shape := ⟨2, ![5, 16384]⟩

abbrev nBuf : Space → Nat
  | .hbm => 193
  | .vmem => 0
  | .smem => 0
  | _ => 0

abbrev hbmTy0_0 (i : Nat) : BufTy := match i % 128 with
  | 0 => ⟨S2x128x6144, .bf16⟩
  | 1 => ⟨S2x128x16384, .bf16⟩
  | 2 => ⟨S640x3072, .i8⟩
  | 3 => ⟨S640x24, .f32⟩
  | 4 => ⟨S640x24, .f32⟩
  | 5 => ⟨S16384x640, .i8⟩
  | 6 => ⟨S16384x5, .f32⟩
  | 7 => ⟨S16384x640, .i8⟩
  | 8 => ⟨S16384x5, .f32⟩
  | 9 => ⟨S16384x6144, .i8⟩
  | 10 => ⟨S16384, .f32⟩
  | 11 => ⟨S16384x6144, .i8⟩
  | 12 => ⟨S16384x6144, .f32⟩
  | 13 => ⟨S16384x6144, .bf16⟩
  | 14 => ⟨S640x3072, .i32⟩
  | 15 => ⟨S_, .i32⟩
  | 16 => ⟨S640x3072, .i32⟩
  | 17 => ⟨S640x3072, .i32⟩
  | 18 => ⟨S_, .i32⟩
  | 19 => ⟨S640x3072, .i32⟩
  | 20 => ⟨S640x3072, .i32⟩
  | 21 => ⟨S640x24x128, .f32⟩
  | 22 => ⟨S640x3072, .f32⟩
  | 23 => ⟨S640x3072, .bf16⟩
  | 24 => ⟨S640x24x128, .f32⟩
  | 25 => ⟨S640x3072, .f32⟩
  | 26 => ⟨S640x3072, .bf16⟩
  | 27 => ⟨S640x3072, .f32⟩
  | 28 => ⟨S640x3072, .bf16⟩
  | 29 => ⟨S640x3072, .bf16⟩
  | 30 => ⟨S640x3072, .bf16⟩
  | 31 => ⟨S640x3072, .f32⟩
  | 32 => ⟨S640x3072, .bf16⟩
  | 33 => ⟨S640x3072, .bf16⟩
  | 34 => ⟨S640x3072, .bf16⟩
  | 35 => ⟨S16384x3072x2, .bf16⟩
  | 36 => ⟨S16384x3072x1, .bf16⟩
  | 37 => ⟨S16384x3072, .bf16⟩
  | 38 => ⟨S16384x640, .f32⟩
  | 39 => ⟨S16384x3072x1, .bf16⟩
  | 40 => ⟨S16384x3072, .bf16⟩
  | 41 => ⟨S16384x640, .f32⟩
  | 42 => ⟨S16384x640, .f32⟩
  | 43 => ⟨S16384x5x128, .i8⟩
  | 44 => ⟨S16384x5x128, .i32⟩
  | 45 => ⟨S16384x5x128, .f32⟩
  | 46 => ⟨S16384x5x1, .f32⟩
  | 47 => ⟨S16384x5x128, .f32⟩
  | 48 => ⟨S16384x5x128, .f32⟩
  | 49 => ⟨S16384x640, .f32⟩
  | 50 => ⟨S16384x5x128, .i8⟩
  | 51 => ⟨S16384x5x128, .i32⟩
  | 52 => ⟨S16384x5x128, .f32⟩
  | 53 => ⟨S16384x5x1, .f32⟩
  | 54 => ⟨S16384x5x128, .f32⟩
  | 55 => ⟨S16384x5x128, .f32⟩
  | 56 => ⟨S16384x640, .f32⟩
  | 57 => ⟨S_, .f32⟩
  | 58 => ⟨S16384x640, .f32⟩
  | 59 => ⟨S16384x640, .f32⟩
  | 60 => ⟨S_, .f32⟩
  | 61 => ⟨S16384x640, .f32⟩
  | 62 => ⟨S16384x640, .f32⟩
  | 63 => ⟨S16384x640, .f32⟩
  | 64 => ⟨S_, .f32⟩
  | 65 => ⟨S16384x640, .f32⟩
  | 66 => ⟨S16384x640, .f32⟩
  | 67 => ⟨S_, .f32⟩
  | 68 => ⟨S16384x640, .f32⟩
  | 69 => ⟨S16384x640, .f32⟩
  | 70 => ⟨S16384x640, .f32⟩
  | 71 => ⟨S16384x640, .f32⟩
  | 72 => ⟨S_, .f32⟩
  | 73 => ⟨S16384x640, .f32⟩
  | 74 => ⟨S16384x640, .f32⟩
  | 75 => ⟨S_, .f32⟩
  | 76 => ⟨S16384x640, .f32⟩
  | 77 => ⟨S16384x640, .f32⟩
  | 78 => ⟨S16384x640, .f32⟩
  | 79 => ⟨S_, .f32⟩
  | 80 => ⟨S16384x640, .f32⟩
  | 81 => ⟨S16384x640, .f32⟩
  | 82 => ⟨S16384x640, .f32⟩
  | 83 => ⟨S16384x5x128, .f32⟩
  | 84 => ⟨S16384x5x128, .f32⟩
  | 85 => ⟨S_, .f32⟩
  | 86 => ⟨S16384x5, .f32⟩
  | 87 => ⟨S_, .f32⟩
  | 88 => ⟨S16384x5, .f32⟩
  | 89 => ⟨S16384x5, .i1⟩
  | 90 => ⟨S_, .f32⟩
  | 91 => ⟨S16384x5, .f32⟩
  | 92 => ⟨S16384x5, .f32⟩
  | 93 => ⟨S_, .f32⟩
  | 94 => ⟨S_, .f32⟩
  | 95 => ⟨S16384x5, .f32⟩
  | 96 => ⟨S16384x5, .f32⟩
  | 97 => ⟨S16384x5x1, .f32⟩
  | 98 => ⟨S16384x5x128, .f32⟩
  | 99 => ⟨S16384x5x128, .f32⟩
  | 100 => ⟨S16384x5x128, .f32⟩
  | 101 => ⟨S_, .f32⟩
  | 102 => ⟨S_, .f32⟩
  | 103 => ⟨S_, .f32⟩
  | 104 => ⟨S16384x5x128, .f32⟩
  | 105 => ⟨S16384x5x128, .f32⟩
  | 106 => ⟨S_, .f32⟩
  | 107 => ⟨S16384x5x128, .f32⟩
  | 108 => ⟨S16384x5x128, .f32⟩
  | 109 => ⟨S16384x5x128, .i32⟩
  | 110 => ⟨S16384x5x128, .i8⟩
  | 111 => ⟨S16384x640, .i8⟩
  | 112 => ⟨S16384x5x128, .f32⟩
  | 113 => ⟨S16384x5x128, .f32⟩
  | 114 => ⟨S_, .f32⟩
  | 115 => ⟨S16384x5, .f32⟩
  | 116 => ⟨S_, .f32⟩
  | 117 => ⟨S16384x5, .f32⟩
  | 118 => ⟨S16384x5, .i1⟩
  | 119 => ⟨S_, .f32⟩
  | 120 => ⟨S16384x5, .f32⟩
  | 121 => ⟨S16384x5, .f32⟩
  | 122 => ⟨S_, .f32⟩
  | 123 => ⟨S_, .f32⟩
  | 124 => ⟨S16384x5, .f32⟩
  | 125 => ⟨S16384x5, .f32⟩
  | 126 => ⟨S16384x5x1, .f32⟩
  | 127 => ⟨S16384x5x128, .f32⟩
  | _ => ⟨S2x128x6144, .bf16⟩

abbrev hbmTy0_1 (i : Nat) : BufTy := match i % 128 with
  | 0 => ⟨S16384x5x128, .f32⟩
  | 1 => ⟨S16384x5x128, .f32⟩
  | 2 => ⟨S_, .f32⟩
  | 3 => ⟨S_, .f32⟩
  | 4 => ⟨S_, .f32⟩
  | 5 => ⟨S16384x5x128, .f32⟩
  | 6 => ⟨S16384x5x128, .f32⟩
  | 7 => ⟨S_, .f32⟩
  | 8 => ⟨S16384x5x128, .f32⟩
  | 9 => ⟨S16384x5x128, .f32⟩
  | 10 => ⟨S16384x5x128, .i32⟩
  | 11 => ⟨S16384x5x128, .i8⟩
  | 12 => ⟨S16384x640, .i8⟩
  | 13 => ⟨S16384x640, .bf16⟩
  | 14 => ⟨S16384x3072, .f32⟩
  | 15 => ⟨S16384x3072, .f32⟩
  | 16 => ⟨S16384x3072x1, .f32⟩
  | 17 => ⟨S16384x3072x1, .f32⟩
  | 18 => ⟨S16384x3072x2, .f32⟩
  | 19 => ⟨S16384x6144, .f32⟩
  | 20 => ⟨S_, .f32⟩
  | 21 => ⟨S16384x6144, .f32⟩
  | 22 => ⟨S16384x6144, .f32⟩
  | 23 => ⟨S16384x6144, .i32⟩
  | 24 => ⟨S16384x6144, .f32⟩
  | 25 => ⟨S16384x1, .f32⟩
  | 26 => ⟨S16384x6144, .f32⟩
  | 27 => ⟨S16384x6144, .f32⟩
  | 28 => ⟨S16384x6144, .f32⟩
  | 29 => ⟨S16384x6144, .f32⟩
  | 30 => ⟨S_, .f32⟩
  | 31 => ⟨S16384, .f32⟩
  | 32 => ⟨S_, .f32⟩
  | 33 => ⟨S16384, .f32⟩
  | 34 => ⟨S16384, .i1⟩
  | 35 => ⟨S_, .f32⟩
  | 36 => ⟨S16384, .f32⟩
  | 37 => ⟨S16384, .f32⟩
  | 38 => ⟨S_, .f32⟩
  | 39 => ⟨S_, .f32⟩
  | 40 => ⟨S16384, .f32⟩
  | 41 => ⟨S16384, .f32⟩
  | 42 => ⟨S16384x6144, .i32⟩
  | 43 => ⟨S16384x6144, .f32⟩
  | 44 => ⟨S_, .f32⟩
  | 45 => ⟨S16384x6144, .f32⟩
  | 46 => ⟨S16384x6144, .f32⟩
  | 47 => ⟨S16384x1, .f32⟩
  | 48 => ⟨S16384x6144, .f32⟩
  | 49 => ⟨S16384x6144, .f32⟩
  | 50 => ⟨S16384x6144, .f32⟩
  | 51 => ⟨S16384x6144, .f32⟩
  | 52 => ⟨S_, .f32⟩
  | 53 => ⟨S_, .f32⟩
  | 54 => ⟨S_, .f32⟩
  | 55 => ⟨S16384x6144, .f32⟩
  | 56 => ⟨S16384x6144, .f32⟩
  | 57 => ⟨S_, .f32⟩
  | 58 => ⟨S16384x6144, .f32⟩
  | 59 => ⟨S16384x6144, .f32⟩
  | 60 => ⟨S16384x6144, .i32⟩
  | 61 => ⟨S16384x6144, .i8⟩
  | 62 => ⟨S1x16384, .f32⟩
  | 63 => ⟨S5x16384, .f32⟩
  | 64 => ⟨S5x16384, .f32⟩
  | _ => ⟨S2x128x6144, .bf16⟩

abbrev hbmTy (i : Nat) : BufTy := match i / 128 with
  | 0 => hbmTy0_0 i
  | 1 => hbmTy0_1 i
  | _ => ⟨S2x128x6144, .bf16⟩

abbrev bufTy : (tb : Table) → Fin (tcTables nBuf tb) → BufTy
  | .hbm, ⟨i, _⟩ => hbmTy i
  | _, _ => ⟨S2x128x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst : Ref sig .tc := ⟨.hbm, 57, rfl⟩
abbrev main_v43 : Ref sig .tc := ⟨.hbm, 58, rfl⟩
abbrev main_v44 : Ref sig .tc := ⟨.hbm, 59, rfl⟩
abbrev main_cst_1 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_2 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_7 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_call0_v0 : Ref sig .tc := ⟨.hbm, 94, rfl⟩
abbrev main_call0_v1 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_11 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_call3_v0 : Ref sig .tc := ⟨.hbm, 123, rfl⟩
abbrev main_call3_v1 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_cst_18 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_19 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_20 : Ref sig .tc := ⟨.hbm, 158, rfl⟩
abbrev main_v110 : Ref sig .tc := ⟨.hbm, 159, rfl⟩
abbrev main_cst_21 : Ref sig .tc := ⟨.hbm, 160, rfl⟩
abbrev main_v111 : Ref sig .tc := ⟨.hbm, 161, rfl⟩
abbrev main_v112 : Ref sig .tc := ⟨.hbm, 162, rfl⟩
abbrev main_cst_22 : Ref sig .tc := ⟨.hbm, 163, rfl⟩
abbrev main_v113 : Ref sig .tc := ⟨.hbm, 164, rfl⟩
abbrev main_v114 : Ref sig .tc := ⟨.hbm, 165, rfl⟩
abbrev main_cst_23 : Ref sig .tc := ⟨.hbm, 166, rfl⟩
abbrev main_call6_v0 : Ref sig .tc := ⟨.hbm, 167, rfl⟩
abbrev main_call6_v1 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_24 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_25 : Ref sig .tc := ⟨.hbm, 180, rfl⟩
abbrev main_cst_26 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩

abbrev nD : Nat := 1
abbrev τ : Topo := Topo.v7x

variable {F : FTy → Type} [FloatOps F]
-- ==== Proof.FrameA.lean ====
/-
  The kernel's frame, first part: one whole run of the body at the first grid point, at any float operations.

  The body fills its two carried scratch buffers (the dequantised projector and the activations, chunk by chunk) and then
  goes through the block. What it writes to its results is not named here: the frame says only which memory it touches.
-/
module

public import proofs.«01_k».proof.Proof.Gen.Kernel.Frame.Runs

@[expose] public section

-- deciding membership in a rectangle recurses once per coordinate of its long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (12, 13, 14, 15, 16, 17, 18, 19) at anything, handed back at some contents nothing names. -/
noncomputable def kernelRun0_A (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) :
    Σ' (LS0 : List (View.Piece (Elt F) S24x640x256 .bf16)), { LS1 : List (View.Piece (Elt F) S24x256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_qgalore_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, fun E K => ?run⟩
  case run =>
    simp only [cc0_qgalore_step_eq_skeleton]; unfold cc0_qgalore_step_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Whole

end
-- ==== Proof.FrameB.lean ====
/-
  The kernel's frame, second part: one whole run of the body at a later grid point, at any float operations.

  The two carried scratch buffers are as the point before left them, and are only read.
-/
module

public import proofs.«01_k».proof.Proof.FrameA

@[expose] public section

-- deciding membership in a rectangle recurses once per coordinate of its long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). Here also the FORGOTTEN outputs' (12, 13, 14, 15, 16, 17, 18, 19) at anything, handed back at some contents nothing names. -/
noncomputable def kernelRun0_B (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : ¬cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) (xs0 : Vec F S24x640x256 .bf16) (xs1 : Vec F S24x256x256 .bf16) :
    Σ' (LS0 : List (View.Piece (Elt F) S24x640x256 .bf16)), { LS1 : List (View.Piece (Elt F) S24x256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_qgalore_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨[], [], fun E K => ?run⟩
  case run =>
    simp only [cc0_qgalore_step_eq_skeleton]; unfold cc0_qgalore_step_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg21.eq_unread hfs0; obtain rfl := harg22.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _; isplitr; · ipureintro; exact harg21.read_unread _
      iexact HS0
    isplitl [HS1]
    · iexists _; isplitr; · ipureintro; exact harg22.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Whole

end
-- ==== Proof.FrameAll.lean ====
/-
  The kernel's frame, last part: what the carried scratch holds from point to point, the obligation of the body at every
  point, the run of the whole program, and the frame it gives: arguments unchanged, semaphore counters at zero.
-/
module

public import proofs.«01_k».proof.Proof.FrameB
public import Idealize.ShloMosaic.Lib.Claim

@[expose] public section

-- deciding membership in a rectangle recurses once per coordinate of its long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The frame from the run: what the region's arrays and the untouched buffers hold at the end, read at the arguments. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c),
      (Pipeline.RDat.FramePost.arr_in h c 11 rfl).trans ((hA c 11).trans (V_main_arg11 m c))⟩) h

/-- Case A's pieces for scratch `arg21`, which the kernel carries between points, cover it: 24 pieces of `S1x640x256` tiling it. -/
theorem scover0_A_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) (y : S24x640x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11).1 S1x640x256.size (by sl_kernel_rfl) y

/-- What case A leaves in scratch `arg21`: its pieces read back over junk. -/
def sout0_A_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) : Vec F S24x640x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11).1)

/-- Case A's pieces for scratch `arg22`, which the kernel carries between points, cover it: 24 pieces of `S1x256x256` tiling it. -/
theorem scover0_A_1 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) (y : S24x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11).2.1 S1x256x256.size (by sl_kernel_rfl) y

/-- What case A leaves in scratch `arg22`: its pieces read back over junk. -/
def sout0_A_1 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) : Vec F S24x256x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11).2.1)

/-- Case B stores nothing into scratch `arg21`: it holds what the point before left. -/
def sout0_B_0 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : ¬cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) (xs0 : Vec F S24x640x256 .bf16) (xs1 : Vec F S24x256x256 .bf16) : Vec F S24x640x256 .bf16 := xs0

/-- Case B stores nothing into scratch `arg22`: it holds what the point before left. -/
def sout0_B_1 (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : ¬cond0_0 i)
    (x0 : Vec F S256x6144 .bf16) (x1 : Vec F S256x256 .bf16) (x2 : Vec F S640x3072 .i8) (x3 : Vec F S24x640 .f32) (x4 : Vec F S24x640 .f32) (x5 : Vec F S256x640 .i8) (x6 : Vec F S5x256 .f32) (x7 : Vec F S256x640 .i8) (x8 : Vec F S5x256 .f32) (x9 : Vec F S256x6144 .i8) (x10 : Vec F S1x256 .f32) (x11 : Vec F S256x6144 .i8) (xs0 : Vec F S24x640x256 .bf16) (xs1 : Vec F S24x256x256 .bf16) : Vec F S24x256x256 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S24x640x256 .bf16 × Vec F S24x256x256 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 64 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 64 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The output windows this certificate FORGETS (12, 13, 14, 15, 16, 17, 18, 19): nothing reads what the kernel leaves in them, so nothing
    of it is named. -/
def forgets0 : Fin 20 → Bool := fun w => w.val == 12 || w.val == 13 || w.val == 14 || w.val == 15 || w.val == 16 || w.val == 17 || w.val == 18 || w.val == 19

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, ⟨%es0, HS0⟩, ⟨%es1, HS1⟩, HS2, HS3, HS4, HS5⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold sout0_B_0 sout0_B_1; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, HS0, HS1, HS2, HS3, HS4, HS5⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every INPUT array of the pipeline unchanged, nothing stated of the
    FORGOTTEN outputs (windows 12, 13, 14, 15, 16, 17, 18, 19) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

/-- THE FRAME: `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Whole

end
-- ==== Proof.Spec.lean ====
/-
  The optimizer step, written with coordinates, over the extended reals.

  Rows `o` of the weight (16384), columns `n` of the weight (6144), rows `j` of the low-rank state (640). Everything is a
  function of the twelve argument arrays; nothing here mentions a block, a grid or a chunk.
-/
module
public import Idealize.ShloMosaic.Lib.Pointwise
@[expose] public section
noncomputable section
open Idealize.ShloMosaic

namespace Cert.Spec

/-! ## One element -/

/-- The value of a signed integer word. -/
abbrev num {w : ℕ} (b : BitVec w) : EReal := FloatOps.sitofp (F := Ideal) .f32 b

/-- The literal a pattern of 32 bits denotes. -/
abbrev lit (b : BitVec 32) : EReal := Ideal.ofBits .f32 b

/-- One half of a byte of projector codes: the low four bits, or the high four. -/
def half (b : BitVec 8) (odd : Prop) [Decidable odd] : EReal :=
  if odd then num ((b.setWidth 32).sshiftRight' 4#32) else num (IntOp.andi (b.setWidth 32) 15#32)

/-- A projector entry from its half byte, its group's zero point and its group's scale. -/
def deq (q z s : EReal) : EReal := (q - z) * s

/-- The first moment's update, from the stored code, its group's scale and the projected gradient. -/
def moment1 (b : BitVec 8) (s r : EReal) : EReal := lit 0x3F666666#32 * (num b * s) + lit 0x3DCCCCCD#32 * r

/-- The second moment's update. -/
def moment2 (b : BitVec 8) (s r : EReal) : EReal := lit 0x3F7FBE77#32 * (num b * s) + lit 0x3A83126F#32 * r * r

/-- The normalized direction of two moments, with their bias corrections. -/
def direction (m v : EReal) : EReal :=
  Ideal.div (Ideal.div m (lit 0x3F26BD02#32)) (Ideal.sqrt (Ideal.div v (lit 0x3C231ACC#32)) + lit 0x322BCC77#32)

/-- The greatest absolute value of a row. -/
def absMax {n : ℕ} (f : Fin n → EReal) : EReal :=
  Finset.fold max (lit 0xFF800000#32) (fun x => FloatOps.absf (F := Ideal) (φ := .f32) (f x)) Finset.univ

/-- The quantisation scale of a row whose greatest absolute value is `a`. -/
def scale (a : EReal) : EReal := if a = 0 then 1 else Ideal.div a (lit 0x42FE0000#32)

/-- The int8 word of a value that is rounded already: clipped to ±127. -/
def clip (x : EReal) : BitVec 8 :=
  FloatOps.fptosi (F := Ideal) (φ := .f32) 8 (min (lit 0x42FE0000#32) (max (lit 0xC2FE0000#32) x))

/-- A moment's code: divided by its scale, rounded to nearest even, clipped. -/
def code (x s : EReal) : BitVec 8 := clip (Ideal.liftRound Ideal.roundHalfEven (Ideal.div x s))

/-- A weight's code: divided by its scale, rounded down after adding the random byte over 256, clipped. -/
def codeW (x s : EReal) (b : BitVec 8) : BitVec 8 :=
  clip (Ideal.liftRound Int.floor (Ideal.div x s + num (b.setWidth 32) * lit 0x3B800000#32))

/-! ## The arrays -/

/-- The twelve arguments. -/
structure Inputs where
  /-- activations: batch, token, column -/
  x : FVec Ideal ⟨3, ![2, 128, 6144]⟩ .bf16
  /-- output gradients: batch, token, row -/
  dy : FVec Ideal ⟨3, ![2, 128, 16384]⟩ .bf16
  /-- projector codes, two columns to a byte -/
  pc : IVec ⟨2, ![640, 3072]⟩ 8
  /-- projector scales, one for 256 columns -/
  ps : FVec Ideal ⟨2, ![640, 24]⟩ .f32
  /-- projector zero points, one for 256 columns -/
  pz : FVec Ideal ⟨2, ![640, 24]⟩ .f32
  /-- first moment, codes -/
  mc : IVec ⟨2, ![16384, 640]⟩ 8
  /-- first moment, scales, one for 128 entries -/
  ms : FVec Ideal ⟨2, ![16384, 5]⟩ .f32
  /-- second moment, codes -/
  vc : IVec ⟨2, ![16384, 640]⟩ 8
  /-- second moment, scales, one for 128 entries -/
  vs : FVec Ideal ⟨2, ![16384, 5]⟩ .f32
  /-- weight codes -/
  wc : IVec ⟨2, ![16384, 6144]⟩ 8
  /-- weight scales, one for a row -/
  ws : FVec Ideal ⟨1, ![16384]⟩ .f32
  /-- random bytes -/
  sr : IVec ⟨2, ![16384, 6144]⟩ 8

variable (A : Inputs)

/-- The projector, dequantised. -/
def proj (j : Fin 640) (n : Fin 6144) : EReal :=
  deq (half (A.pc (ix2 j ⟨n.val / 2, by omega⟩)) (n.val % 2 = 1))
    (A.pz (ix2 j ⟨n.val / 256, by omega⟩)) (A.ps (ix2 j ⟨n.val / 256, by omega⟩))

/-- The weight's gradient: the sum over all the tokens. -/
def grad (o : Fin 16384) (n : Fin 6144) : EReal :=
  ∑ t : Fin 256, A.x (ix3 ⟨t.val / 128, by omega⟩ ⟨t.val % 128, by omega⟩ n)
    * A.dy (ix3 ⟨t.val / 128, by omega⟩ ⟨t.val % 128, by omega⟩ o)

/-- The gradient projected to the low-rank space. -/
def low (o : Fin 16384) (j : Fin 640) : EReal := ∑ n : Fin 6144, proj A j n * grad A o n

/-- The new first moment. -/
def mNew (o : Fin 16384) (j : Fin 640) : EReal :=
  moment1 (A.mc (ix2 o j)) (A.ms (ix2 o ⟨j.val / 128, by omega⟩)) (low A o j)

/-- The new second moment. -/
def vNew (o : Fin 16384) (j : Fin 640) : EReal :=
  moment2 (A.vc (ix2 o j)) (A.vs (ix2 o ⟨j.val / 128, by omega⟩)) (low A o j)

/-- Result 4: the normalized direction. -/
def nDir (o : Fin 16384) (j : Fin 640) : EReal := direction (mNew A o j) (vNew A o j)

/-- Result 6, the other way round: the scale of group `g` of row `o` of the first moment. -/
def mScale (o : Fin 16384) (g : Fin 5) : EReal :=
  scale (absMax fun l : Fin 128 => mNew A o ⟨128 * g.val + l.val, by omega⟩)

/-- Result 8, the other way round. -/
def vScale (o : Fin 16384) (g : Fin 5) : EReal :=
  scale (absMax fun l : Fin 128 => vNew A o ⟨128 * g.val + l.val, by omega⟩)

/-- Result 5: the first moment's codes. -/
def mCode (o : Fin 16384) (j : Fin 640) : BitVec 8 := code (mNew A o j) (mScale A o ⟨j.val / 128, by omega⟩)

/-- Result 7: the second moment's codes. -/
def vCode (o : Fin 16384) (j : Fin 640) : BitVec 8 := code (vNew A o j) (vScale A o ⟨j.val / 128, by omega⟩)

/-- Result 3: the change of the weight. -/
def delta (o : Fin 16384) (n : Fin 6144) : EReal := lit 0x3A83126F#32 * ∑ j : Fin 640, nDir A o j * proj A j n

/-- The new weight, before it is quantised. -/
def wNew (o : Fin 16384) (n : Fin 6144) : EReal := num (A.wc (ix2 o n)) * A.ws (ix1 o) - delta A o n

/-- Result 2: the weight's scales. -/
def wScale (o : Fin 16384) : EReal := scale (absMax (wNew A o))

/-- Result 1: the weight's codes. -/
def wCode (o : Fin 16384) (n : Fin 6144) : BitVec 8 := codeW (wNew A o n) (wScale A o) (A.sr (ix2 o n))

end Cert.Spec
-- ==== Proof.Interleave.lean ====
/-
  The 0/1 matrix that interleaves two halves of a row: column `c` of the product with it is entry `c / 2` of the first half
  where `c` is even, of the second half where `c` is odd.
-/
module
public import proofs.«01_k».proof.Proof.Gen.KernelIdeal.Skeleton
public import proofs.«01_k».proof.Proof.Spec
public import Idealize.ShloMosaic.Lib.Pointwise
@[expose] public section
set_option maxRecDepth 16384
noncomputable section
open Idealize.ShloMosaic Idealize.SL.Sem

namespace Cert.KernelIdeal.Step
open Cert.KernelIdeal Cert.KernelIdeal.Gen Cert.Spec

theorem word_eq (a b : ℕ) (ha : a < 2 ^ 32) (hb : b < 2 ^ 32) : (BitVec.ofNat 32 a = BitVec.ofNat 32 b) ↔ a = b := by
  constructor
  · intro h
    have := congrArg BitVec.toNat h
    simp only [BitVec.toNat_ofNat] at this
    rwa [Nat.mod_eq_of_lt ha, Nat.mod_eq_of_lt hb] at this
  · rintro rfl; rfl

/-- The source of row `k < 128` of the matrix is column `2k`. -/
theorem src_low (k : ℕ) (hk : k < 128) :
    Scalar.select (IntOp.cmpi .slt (BitVec.ofNat 32 k) 128#32) (IntOp.muli (2#32) (BitVec.ofNat 32 k))
      (IntOp.addi (IntOp.muli (2#32) (IntOp.subi (BitVec.ofNat 32 k) 128#32)) 1#32) = BitVec.ofNat 32 (2 * k) := by
  have : ∀ k : Fin 128, Scalar.select (IntOp.cmpi .slt (BitVec.ofNat 32 k.val) 128#32) (IntOp.muli (2#32) (BitVec.ofNat 32 k.val))
      (IntOp.addi (IntOp.muli (2#32) (IntOp.subi (BitVec.ofNat 32 k.val) 128#32)) 1#32) = BitVec.ofNat 32 (2 * k.val) := by
    decide +kernel
  exact this ⟨k, hk⟩

/-- The source of row `128 + k` is column `2k + 1`. -/
theorem src_high (k : ℕ) (hk : k < 128) :
    Scalar.select (IntOp.cmpi .slt (BitVec.ofNat 32 (128 + k)) 128#32) (IntOp.muli (2#32) (BitVec.ofNat 32 (128 + k)))
      (IntOp.addi (IntOp.muli (2#32) (IntOp.subi (BitVec.ofNat 32 (128 + k)) 128#32)) 1#32) = BitVec.ofNat 32 (2 * k + 1) := by
  have : ∀ k : Fin 128, Scalar.select (IntOp.cmpi .slt (BitVec.ofNat 32 (128 + k.val)) 128#32) (IntOp.muli (2#32) (BitVec.ofNat 32 (128 + k.val)))
      (IntOp.addi (IntOp.muli (2#32) (IntOp.subi (BitVec.ofNat 32 (128 + k.val)) 128#32)) 1#32) = BitVec.ofNat 32 (2 * k.val + 1) := by
    decide +kernel
  exact this ⟨k, hk⟩

theorem sel_eq (a b : ℕ) (ha : a < 2 ^ 32) (hb : b < 2 ^ 32) (u v : EReal) :
    Scalar.select (IntOp.cmpi .eq (BitVec.ofNat 32 a) (BitVec.ofNat 32 b)) u v = if a = b then u else v := by
  by_cases h : a = b
  · subst h; rw [if_pos rfl]; simp [Scalar.select, IntOp.cmpi]
  · rw [if_neg h]
    have : ¬ (BitVec.ofNat 32 a = BitVec.ofNat 32 b) := fun e => h ((word_eq a b ha hb).mp e)
    have hz : IntOp.cmpi .eq (BitVec.ofNat 32 a) (BitVec.ofNat 32 b) = 0#1 := by
      unfold IntOp.cmpi
      simp only [beq_eq_false_iff_ne.mpr this]
      rfl
    rw [hz]; rfl

/-- The product with the matrix, as the two sums it comes out as. -/
theorem interleave (f g : Fin 128 → EReal) (c : Fin 256) :
    (∑ x : Fin 128, Scalar.select (IntOp.cmpi .eq
          (Scalar.select (IntOp.cmpi .slt (BitVec.ofNat 32 x.val) 128#32) (IntOp.muli (2#32) (BitVec.ofNat 32 x.val))
            (IntOp.addi (IntOp.muli (2#32) (IntOp.subi (BitVec.ofNat 32 x.val) 128#32)) 1#32)) (BitVec.ofNat 32 c.val)) (f x) 0)
      + (∑ x : Fin 128, Scalar.select (IntOp.cmpi .eq
          (Scalar.select (IntOp.cmpi .slt (BitVec.ofNat 32 (128 + x.val)) 128#32) (IntOp.muli (2#32) (BitVec.ofNat 32 (128 + x.val)))
            (IntOp.addi (IntOp.muli (2#32) (IntOp.subi (BitVec.ofNat 32 (128 + x.val)) 128#32)) 1#32)) (BitVec.ofNat 32 c.val)) (g x) 0)
      = if c.val % 2 = 1 then g ⟨c.val / 2, by omega⟩ else f ⟨c.val / 2, by omega⟩ := by
  have hc := c.isLt
  have e1 : ∀ x : Fin 128, Scalar.select (IntOp.cmpi .eq
          (Scalar.select (IntOp.cmpi .slt (BitVec.ofNat 32 x.val) 128#32) (IntOp.muli (2#32) (BitVec.ofNat 32 x.val))
            (IntOp.addi (IntOp.muli (2#32) (IntOp.subi (BitVec.ofNat 32 x.val) 128#32)) 1#32)) (BitVec.ofNat 32 c.val)) (f x) 0
      = if x = ⟨c.val / 2, by omega⟩ then (if c.val % 2 = 1 then 0 else f x) else 0 := by
    intro x
    rw [src_low x.val x.isLt, sel_eq _ _ (by omega) (by omega)]
    simp only [Fin.ext_iff]
    split_ifs <;> first | rfl | omega
  have e2 : ∀ x : Fin 128, Scalar.select (IntOp.cmpi .eq
          (Scalar.select (IntOp.cmpi .slt (BitVec.ofNat 32 (128 + x.val)) 128#32) (IntOp.muli (2#32) (BitVec.ofNat 32 (128 + x.val)))
            (IntOp.addi (IntOp.muli (2#32) (IntOp.subi (BitVec.ofNat 32 (128 + x.val)) 128#32)) 1#32)) (BitVec.ofNat 32 c.val)) (g x) 0
      = if x = ⟨c.val / 2, by omega⟩ then (if c.val % 2 = 1 then g x else 0) else 0 := by
    intro x
    rw [src_high x.val x.isLt, sel_eq _ _ (by omega) (by omega)]
    simp only [Fin.ext_iff]
    split_ifs <;> first | rfl | omega
  rw [Finset.sum_congr rfl fun x _ => e1 x, Finset.sum_congr rfl fun x _ => e2 x,
    Finset.sum_ite_eq' Finset.univ, Finset.sum_ite_eq' Finset.univ]
  simp only [Finset.mem_univ, if_true]
  split_ifs <;> simp

end Cert.KernelIdeal.Step
-- ==== Proof.Payload.lean ====
/-
  What the kernel's tile operations compute, read at an index: the projector's chunk, the transposed activations, one term of
  the projection, one chunk of the weight's change, the row maxima and the weight's codes.
-/
module
public import proofs.«01_k».proof.Proof.Interleave
@[expose] public section
set_option maxRecDepth 16384
noncomputable section
open Idealize.ShloMosaic Idealize.SL.Sem
namespace Cert.KernelIdeal.Step
open Cert.KernelIdeal Cert.KernelIdeal.Gen Cert.Spec

/-- A chunk of the projector, its codes unpacked, dequantised and interleaved. -/
theorem pay8_apply (v496 : Vec Ideal S640x128 .i8) (v499 v507 : Vec Ideal S1x640 .f32) (j : Fin 640) (c : Fin 256) :
    k0_pay8 (F := Ideal) (k0_pay6 v496 v499 v507) (k0_pay7 v496 v499 v507) (ix3 0 j c)
      = deq (half (v496 (ix2 j ⟨c.val / 2, by omega⟩)) (c.val % 2 = 1)) (v507 (ix2 0 j)) (v499 (ix2 0 j)) := by
  unfold k0_pay8 k0_pay6 k0_pay7 k0_pay5 k0_pay4 k0_pay3
  pointwise []
  refine (interleave _ _ c).trans ?_
  unfold deq half num
  split_ifs
  · rfl
  · rfl

/-- A chunk of the activations, transposed. -/
theorem pay2_apply (v : Vec Ideal S256x256 .bf16) (a b : Fin 256) : k0_pay2 (F := Ideal) v (ix3 0 a b) = v (ix2 b a) := by
  unfold k0_pay2
  pointwise []

/-- One chunk's term of the projected gradient. -/
theorem pay10_apply (acc : Vec Ideal S640x256 .f32) (v481 : Vec Ideal S1x256x256 .bf16) (v483 : Vec Ideal S256x256 .bf16) (v488 : Vec Ideal S1x640x256 .bf16) (j : Fin 640) (o : Fin 256) :
    k0_pay10 (F := Ideal) acc v481 v483 v488 (ix2 j o) = acc (ix2 j o) + ∑ n : Fin 256, v488 (ix3 0 j n) * ∑ t : Fin 256, v481 (ix3 0 n t) * v483 (ix2 t o) := by
  unfold k0_pay10
  pointwise []

/-- A chunk of the change of the weight. -/
theorem pay71_apply (v482 : Vec Ideal S256x640 .bf16) (v484 : Vec Ideal S1x640x256 .bf16) (o n : Fin 256) :
    k0_pay71 (F := Ideal) v482 v484 (ix2 o n) = lit 0x3A83126F#32 * ∑ j : Fin 640, v482 (ix2 o j) * v484 (ix3 0 j n) := by
  unfold_payloads
  pointwise []

/-- A chunk of the new weight; the scale is the same along the row. -/
theorem pay73_apply (v482 : Vec Ideal S256x640 .bf16) (v484 : Vec Ideal S1x640x256 .bf16) (v491 : Vec Ideal S256x128 .f32)
    (v493 : Vec Ideal S256x256 .i8) (s : Fin 256 → EReal) (hs : ∀ o l, v491 (ix2 o l) = s o) (o n : Fin 256) :
    k0_pay73 (F := Ideal) v482 v484 v491 v493 (ix2 o n)
      = num (v493 (ix2 o n)) * s o - lit 0x3A83126F#32 * ∑ j : Fin 640, v482 (ix2 o j) * v484 (ix3 0 j n) := by
  unfold_payloads
  pointwise []
  simp only [hs, dite_eq_ite, ite_self]

/-- The row maxima after a chunk: lane `l` takes columns `l` and `128 + l`. -/
theorem pay74_apply (acc : Vec Ideal S256x128 .f32) (v482 : Vec Ideal S256x640 .bf16) (v484 : Vec Ideal S1x640x256 .bf16)
    (v491 : Vec Ideal S256x128 .f32) (v493 : Vec Ideal S256x256 .i8) (s : Fin 256 → EReal) (hs : ∀ o l, v491 (ix2 o l) = s o)
    (o : Fin 256) (l : Fin 128) :
    k0_pay74 (F := Ideal) acc v482 v484 v491 v493 (ix2 o l)
      = max (acc (ix2 o l)) (max
          (FloatOps.absf (F := Ideal) (φ := .f32) (num (v493 (ix2 o ⟨l.val, by omega⟩)) * s o
            - lit 0x3A83126F#32 * ∑ j : Fin 640, v482 (ix2 o j) * v484 (ix3 0 j ⟨l.val, by omega⟩)))
          (FloatOps.absf (F := Ideal) (φ := .f32) (num (v493 (ix2 o ⟨128 + l.val, by omega⟩)) * s o
            - lit 0x3A83126F#32 * ∑ j : Fin 640, v482 (ix2 o j) * v484 (ix3 0 j ⟨128 + l.val, by omega⟩)))) := by
  unfold_payloads
  pointwise []
  simp only [hs]

/-- A chunk of the weight's codes, from the row's inverse scale. -/
theorem pay1_apply (v482 : Vec Ideal S256x128 .f32) (v484 : Vec Ideal S256x256 .i8) (v490 : Vec Ideal S256x256 .f32)
    (s : Fin 256 → EReal) (hs : ∀ o l, v482 (ix2 o l) = s o) (o n : Fin 256) :
    k0_pay1 (F := Ideal) v482 v484 v490 (ix2 o n)
      = clip (Ideal.liftRound Int.floor (v490 (ix2 o n) * s o + num ((v484 (ix2 o n)).setWidth 32) * lit 0x3B800000#32)) := by
  unfold_payloads
  pointwise []
  simp only [hs, dite_eq_ite, ite_self]
  rfl

end Cert.KernelIdeal.Step
-- ==== Proof.Fills.lean ====
/-
  Stores that together write one function: when every store is a block of `G` and the blocks cover the buffer, the buffer
  holds `G`.
-/
module
public import Idealize.ShloMosaic.Lib.Pointwise
public import Idealize.ShloMosaic.Lib.Tactic
public import Idealize.ShloMosaic.Lib.Pipeline.Value
@[expose] public section
noncomputable section
open Idealize.ShloMosaic Idealize.SL.Sem

namespace Cert.Step

variable {S : Shape} {e : EltTy}

/-- Every store of `L` is a block of `G`, and together they cover the indices `K`. -/
def Fills (G : S.Idx → Elt Ideal e) (K : S.Idx → Prop) (L : List (View.Piece (Elt Ideal) S e)) : Prop :=
  (∀ p ∈ L, ∀ x, p.2 x = G (p.1.emb x)) ∧ ∀ y, K y → ∃ p ∈ L, y ∈ p.1.set

theorem Fills.nil (G : S.Idx → Elt Ideal e) : Fills G (fun _ => False) [] :=
  ⟨fun _ h => absurd h List.not_mem_nil, fun _ h => h.elim⟩

theorem Fills.append {G : S.Idx → Elt Ideal e} {K K' : S.Idx → Prop} {L L' : List (View.Piece (Elt Ideal) S e)}
    (h : Fills G K L) (h' : Fills G K' L') : Fills G (fun y => K y ∨ K' y) (L ++ L') := by
  refine ⟨fun p hp => (List.mem_append.mp hp).elim (h.1 p) (h'.1 p), fun y hy => ?_⟩
  rcases hy with hy | hy
  · obtain ⟨p, hp, hm⟩ := h.2 y hy; exact ⟨p, List.mem_append_left _ hp, hm⟩
  · obtain ⟨p, hp, hm⟩ := h'.2 y hy; exact ⟨p, List.mem_append_right _ hp, hm⟩

theorem Fills.mono {G : S.Idx → Elt Ideal e} {K K' : S.Idx → Prop} {L : List (View.Piece (Elt Ideal) S e)}
    (h : Fills G K L) (hK : ∀ y, K' y → K y) : Fills G K' L := ⟨h.1, fun y hy => h.2 y (hK y hy)⟩

theorem Fills.canon {G : S.Idx → Elt Ideal e} {K : S.Idx → Prop} {L : List (View.Piece (Elt Ideal) S e)}
    (h : Fills G K L) (hK : ∀ y, K y) : View.canon L = G :=
  funext fun y => View.canon_apply_of_pieces G L h.1 y (h.2 y (hK y))

end Cert.Step
-- ==== Proof.BlockMoments.lean ====
/-
  One block of rows of the optimizer's state: the moments, their scales and codes, and the direction, as functions of the
  block's arrays; and the five groups of 128 columns, each of which the body computes by itself.
-/
module
public import proofs.«01_k».proof.Proof.Payload
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

/-! ## The block's functions -/

/-- The new first moment, from the projected gradient (transposed), the stored codes and their scales. -/
def mB (R : Vec Ideal S640x256 .f32) (x : Vec Ideal S256x640 .i8) (s : Vec Ideal S5x256 .f32) : S256x640.Idx → EReal :=
  fun y => moment1 (x y) (s (ix2 ⟨(y 1).val / 128, by have : (y 1).val < 640 := (y 1).isLt; omega⟩ (y 0))) (R (ix2 (y 1) (y 0)))

/-- The new second moment. -/
def vB (R : Vec Ideal S640x256 .f32) (x : Vec Ideal S256x640 .i8) (s : Vec Ideal S5x256 .f32) : S256x640.Idx → EReal :=
  fun y => moment2 (x y) (s (ix2 ⟨(y 1).val / 128, by have : (y 1).val < 640 := (y 1).isLt; omega⟩ (y 0))) (R (ix2 (y 1) (y 0)))

/-- The direction of two moments. -/
def dirB (m v : S256x640.Idx → EReal) : S256x640.Idx → EReal := fun y => direction (m y) (v y)

/-- Group `g` of the columns. -/
def cols {α : Type} (g : Fin 5) (f : S256x640.Idx → α) : S256x128.Idx → α :=
  fun z => f (ix2 (z 0) ⟨128 * g.val + (z 1).val, by have : (z 1).val < 128 := (z 1).isLt; omega⟩)

/-- The scale of group `g` of row `o`. -/
def scaleAt (f : S256x640.Idx → EReal) (o : Fin 256) (g : Fin 5) : EReal := scale (absMax fun l : Fin 128 => cols g f (ix2 o l))

/-- The scales, a row for a group. -/
def scaleB (f : S256x640.Idx → EReal) : S5x256.Idx → EReal := fun y => scaleAt f (y 1) (y 0)

/-- The codes of a moment. -/
def codeB (f : S256x640.Idx → EReal) : S256x640.Idx → BitVec 8 :=
  fun y => code (f y) (scaleAt f (y 0) ⟨(y 1).val / 128, by have : (y 1).val < 640 := (y 1).isLt; omega⟩)

/-- The scales of group `g`, as a column. -/
def scaleCol (g : Fin 5) (f : S256x640.Idx → EReal) : S256x1.Idx → EReal := fun z => scaleAt f (z 0) g

/-! ## Loads of a group -/

theorem col_of (g : Fin 5) (l : Fin 128) (h : 128 * g.val + l.val < 640) :
    (⟨(⟨128 * g.val + l.val, h⟩ : Fin 640).val / 128, by simp only; omega⟩ : Fin 5) = g := Fin.ext (by simp only; omega)

theorem m_group0 (R : Vec Ideal S640x256 .f32) (x : Vec Ideal S256x640 .i8) (s : Vec Ideal S5x256 .f32) :
    k0_pay12 (F := Ideal) R (View.ld (Val := Elt Ideal) x (Rect.unit ![0, 0] S256x128.size inb_S256x640_S256x128_0_0)) (View.ld (Val := Elt Ideal) s (Rect.unit ![0, 0] S1x256.size inb_S5x256_S1x256_0_0)) = cols 0 (mB R x s) := by
  funext z; idx_vars z
  have e : View.ld (Val := Elt Ideal) x (Rect.unit ![0, 0] S256x128.size inb_S256x640_S256x128_0_0) (ix2 z0 z1) = x (ix2 z0 ⟨0 + z1.val, by omega⟩) :=
    View.ld_unit_apply_of x _ _ _ _ _ (by intro a; fin_cases a <;> simp)
  have e' : View.ld (Val := Elt Ideal) s (Rect.unit ![0, 0] S1x256.size inb_S5x256_S1x256_0_0) (ix2 0 z0) = s (ix2 0 z0) :=
    View.ld_unit_apply_of s _ _ _ _ _ (by intro a; fin_cases a <;> simp)
  have ec : cols 0 (mB R x s) (ix2 z0 z1) = moment1 (x (ix2 z0 ⟨0 + z1.val, by omega⟩)) (s (ix2 0 z0)) (R (ix2 ⟨0 + z1.val, by omega⟩ z0)) :=
    congrArg (fun k => moment1 (x (ix2 z0 ⟨0 + z1.val, by omega⟩)) (s (ix2 k z0)) (R (ix2 ⟨0 + z1.val, by omega⟩ z0))) (col_of 0 z1 _)
  rw [ec, ← e, ← e']
  generalize View.ld (Val := Elt Ideal) x _ = X
  generalize View.ld (Val := Elt Ideal) s _ = S
  unfold moment1
  unfold_payloads
  pointwise []

theorem m_group1 (R : Vec Ideal S640x256 .f32) (x : Vec Ideal S256x640 .i8) (s : Vec Ideal S5x256 .f32) :
    k0_pay23 (F := Ideal) R (View.ld (Val := Elt Ideal) x (Rect.unit ![0, 128] S256x128.size inb_S256x640_S256x128_0_128)) (View.ld (Val := Elt Ideal) s (Rect.unit ![1, 0] S1x256.size inb_S5x256_S1x256_1_0)) = cols 1 (mB R x s) := by
  funext z; idx_vars z
  have e : View.ld (Val := Elt Ideal) x (Rect.unit ![0, 128] S256x128.size inb_S256x640_S256x128_0_128) (ix2 z0 z1) = x (ix2 z0 ⟨128 + z1.val, by omega⟩) :=
    View.ld_unit_apply_of x _ _ _ _ _ (by intro a; fin_cases a <;> simp)
  have e' : View.ld (Val := Elt Ideal) s (Rect.unit ![1, 0] S1x256.size inb_S5x256_S1x256_1_0) (ix2 0 z0) = s (ix2 1 z0) :=
    View.ld_unit_apply_of s _ _ _ _ _ (by intro a; fin_cases a <;> simp)
  have ec : cols 1 (mB R x s) (ix2 z0 z1) = moment1 (x (ix2 z0 ⟨128 + z1.val, by omega⟩)) (s (ix2 1 z0)) (R (ix2 ⟨128 + z1.val, by omega⟩ z0)) :=
    congrArg (fun k => moment1 (x (ix2 z0 ⟨128 + z1.val, by omega⟩)) (s (ix2 k z0)) (R (ix2 ⟨128 + z1.val, by omega⟩ z0))) (col_of 1 z1 _)
  rw [ec, ← e, ← e']
  generalize View.ld (Val := Elt Ideal) x _ = X
  generalize View.ld (Val := Elt Ideal) s _ = S
  unfold moment1
  unfold_payloads
  pointwise []

theorem m_group2 (R : Vec Ideal S640x256 .f32) (x : Vec Ideal S256x640 .i8) (s : Vec Ideal S5x256 .f32) :
    k0_pay35 (F := Ideal) R (View.ld (Val := Elt Ideal) x (Rect.unit ![0, 256] S256x128.size inb_S256x640_S256x128_0_256)) (View.ld (Val := Elt Ideal) s (Rect.unit ![2, 0] S1x256.size inb_S5x256_S1x256_2_0)) = cols 2 (mB R x s) := by
  funext z; idx_vars z
  have e : View.ld (Val := Elt Ideal) x (Rect.unit ![0, 256] S256x128.size inb_S256x640_S256x128_0_256) (ix2 z0 z1) = x (ix2 z0 ⟨256 + z1.val, by omega⟩) :=
    View.ld_unit_apply_of x _ _ _ _ _ (by intro a; fin_cases a <;> simp)
  have e' : View.ld (Val := Elt Ideal) s (Rect.unit ![2, 0] S1x256.size inb_S5x256_S1x256_2_0) (ix2 0 z0) = s (ix2 2 z0) :=
    View.ld_unit_apply_of s _ _ _ _ _ (by intro a; fin_cases a <;> simp)
  have ec : cols 2 (mB R x s) (ix2 z0 z1) = moment1 (x (ix2 z0 ⟨256 + z1.val, by omega⟩)) (s (ix2 2 z0)) (R (ix2 ⟨256 + z1.val, by omega⟩ z0)) :=
    congrArg (fun k => moment1 (x (ix2 z0 ⟨256 + z1.val, by omega⟩)) (s (ix2 k z0)) (R (ix2 ⟨256 + z1.val, by omega⟩ z0))) (col_of 2 z1 _)
  rw [ec, ← e, ← e']
  generalize View.ld (Val := Elt Ideal) x _ = X
  generalize View.ld (Val := Elt Ideal) s _ = S
  unfold moment1
  unfold_payloads
  pointwise []

theorem m_group3 (R : Vec Ideal S640x256 .f32) (x : Vec Ideal S256x640 .i8) (s : Vec Ideal S5x256 .f32) :
    k0_pay48 (F := Ideal) R (View.ld (Val := Elt Ideal) x (Rect.unit ![0, 384] S256x128.size inb_S256x640_S256x128_0_384)) (View.ld (Val := Elt Ideal) s (Rect.unit ![3, 0] S1x256.size inb_S5x256_S1x256_3_0)) = cols 3 (mB R x s) := by
  funext z; idx_vars z
  have e : View.ld (Val := Elt Ideal) x (Rect.unit ![0, 384] S256x128.size inb_S256x640_S256x128_0_384) (ix2 z0 z1) = x (ix2 z0 ⟨384 + z1.val, by omega⟩) :=
    View.ld_unit_apply_of x _ _ _ _ _ (by intro a; fin_cases a <;> simp)
  have e' : View.ld (Val := Elt Ideal) s (Rect.unit ![3, 0] S1x256.size inb_S5x256_S1x256_3_0) (ix2 0 z0) = s (ix2 3 z0) :=
    View.ld_unit_apply_of s _ _ _ _ _ (by intro a; fin_cases a <;> simp)
  have ec : cols 3 (mB R x s) (ix2 z0 z1) = moment1 (x (ix2 z0 ⟨384 + z1.val, by omega⟩)) (s (ix2 3 z0)) (R (ix2 ⟨384 + z1.val, by omega⟩ z0)) :=
    congrArg (fun k => moment1 (x (ix2 z0 ⟨384 + z1.val, by omega⟩)) (s (ix2 k z0)) (R (ix2 ⟨384 + z1.val, by omega⟩ z0))) (col_of 3 z1 _)
  rw [ec, ← e, ← e']
  generalize View.ld (Val := Elt Ideal) x _ = X
  generalize View.ld (Val := Elt Ideal) s _ = S
  unfold moment1
  unfold_payloads
  pointwise []

theorem m_group4 (R : Vec Ideal S640x256 .f32) (x : Vec Ideal S256x640 .i8) (s : Vec Ideal S5x256 .f32) :
    k0_pay57 (F := Ideal) R (View.ld (Val := Elt Ideal) x (Rect.unit ![0, 512] S256x128.size inb_S256x640_S256x128_0_512)) (View.ld (Val := Elt Ideal) s (Rect.unit ![4, 0] S1x256.size inb_S5x256_S1x256_4_0)) = cols 4 (mB R x s) := by
  funext z; idx_vars z
  have e : View.ld (Val := Elt Ideal) x (Rect.unit ![0, 512] S256x128.size inb_S256x640_S256x128_0_512) (ix2 z0 z1) = x (ix2 z0 ⟨512 + z1.val, by omega⟩) :=
    View.ld_unit_apply_of x _ _ _ _ _ (by intro a; fin_cases a <;> simp)
  have e' : View.ld (Val := Elt Ideal) s (Rect.unit ![4, 0] S1x256.size inb_S5x256_S1x256_4_0) (ix2 0 z0) = s (ix2 4 z0) :=
    View.ld_unit_apply_of s _ _ _ _ _ (by intro a; fin_cases a <;> simp)
  have ec : cols 4 (mB R x s) (ix2 z0 z1) = moment1 (x (ix2 z0 ⟨512 + z1.val, by omega⟩)) (s (ix2 4 z0)) (R (ix2 ⟨512 + z1.val, by omega⟩ z0)) :=
    congrArg (fun k => moment1 (x (ix2 z0 ⟨512 + z1.val, by omega⟩)) (s (ix2 k z0)) (R (ix2 ⟨512 + z1.val, by omega⟩ z0))) (col_of 4 z1 _)
  rw [ec, ← e, ← e']
  generalize View.ld (Val := Elt Ideal) x _ = X
  generalize View.ld (Val := Elt Ideal) s _ = S
  unfold moment1
  unfold_payloads
  pointwise []

theorem v_group0 (R : Vec Ideal S640x256 .f32) (x : Vec Ideal S256x640 .i8) (s : Vec Ideal S5x256 .f32) :
    k0_pay13 (F := Ideal) R (View.ld (Val := Elt Ideal) x (Rect.unit ![0, 0] S256x128.size inb_S256x640_S256x128_0_0)) (View.ld (Val := Elt Ideal) s (Rect.unit ![0, 0] S1x256.size inb_S5x256_S1x256_0_0)) = cols 0 (vB R x s) := by
  funext z; idx_vars z
  have e : View.ld (Val := Elt Ideal) x (Rect.unit ![0, 0] S256x128.size inb_S256x640_S256x128_0_0) (ix2 z0 z1) = x (ix2 z0 ⟨0 + z1.val, by omega⟩) :=
    View.ld_unit_apply_of x _ _ _ _ _ (by intro a; fin_cases a <;> simp)
  have e' : View.ld (Val := Elt Ideal) s (Rect.unit ![0, 0] S1x256.size inb_S5x256_S1x256_0_0) (ix2 0 z0) = s (ix2 0 z0) :=
    View.ld_unit_apply_of s _ _ _ _ _ (by intro a; fin_cases a <;> simp)
  have ec : cols 0 (vB R x s) (ix2 z0 z1) = moment2 (x (ix2 z0 ⟨0 + z1.val, by omega⟩)) (s (ix2 0 z0)) (R (ix2 ⟨0 + z1.val, by omega⟩ z0)) :=
    congrArg (fun k => moment2 (x (ix2 z0 ⟨0 + z1.val, by omega⟩)) (s (ix2 k z0)) (R (ix2 ⟨0 + z1.val, by omega⟩ z0))) (col_of 0 z1 _)
  rw [ec, ← e, ← e']
  generalize View.ld (Val := Elt Ideal) x _ = X
  generalize View.ld (Val := Elt Ideal) s _ = S
  unfold moment2
  unfold_payloads
  pointwise []

theorem v_group1 (R : Vec Ideal S640x256 .f32) (x : Vec Ideal S256x640 .i8) (s : Vec Ideal S5x256 .f32) :
    k0_pay24 (F := Ideal) R (View.ld (Val := Elt Ideal) x (Rect.unit ![0, 128] S256x128.size inb_S256x640_S256x128_0_128)) (View.ld (Val := Elt Ideal) s (Rect.unit ![1, 0] S1x256.size inb_S5x256_S1x256_1_0)) = cols 1 (vB R x s) := by
  funext z; idx_vars z
  have e : View.ld (Val := Elt Ideal) x (Rect.unit ![0, 128] S256x128.size inb_S256x640_S256x128_0_128) (ix2 z0 z1) = x (ix2 z0 ⟨128 + z1.val, by omega⟩) :=
    View.ld_unit_apply_of x _ _ _ _ _ (by intro a; fin_cases a <;> simp)
  have e' : View.ld (Val := Elt Ideal) s (Rect.unit ![1, 0] S1x256.size inb_S5x256_S1x256_1_0) (ix2 0 z0) = s (ix2 1 z0) :=
    View.ld_unit_apply_of s _ _ _ _ _ (by intro a; fin_cases a <;> simp)
  have ec : cols 1 (vB R x s) (ix2 z0 z1) = moment2 (x (ix2 z0 ⟨128 + z1.val, by omega⟩)) (s (ix2 1 z0)) (R (ix2 ⟨128 + z1.val, by omega⟩ z0)) :=
    congrArg (fun k => moment2 (x (ix2 z0 ⟨128 + z1.val, by omega⟩)) (s (ix2 k z0)) (R (ix2 ⟨128 + z1.val, by omega⟩ z0))) (col_of 1 z1 _)
  rw [ec, ← e, ← e']
  generalize View.ld (Val := Elt Ideal) x _ = X
  generalize View.ld (Val := Elt Ideal) s _ = S
  unfold moment2
  unfold_payloads
  pointwise []

theorem v_group2 (R : Vec Ideal S640x256 .f32) (x : Vec Ideal S256x640 .i8) (s : Vec Ideal S5x256 .f32) :
    k0_pay36 (F := Ideal) R (View.ld (Val := Elt Ideal) x (Rect.unit ![0, 256] S256x128.size inb_S256x640_S256x128_0_256)) (View.ld (Val := Elt Ideal) s (Rect.unit ![2, 0] S1x256.size inb_S5x256_S1x256_2_0)) = cols 2 (vB R x s) := by
  funext z; idx_vars z
  have e : View.ld (Val := Elt Ideal) x (Rect.unit ![0, 256] S256x128.size inb_S256x640_S256x128_0_256) (ix2 z0 z1) = x (ix2 z0 ⟨256 + z1.val, by omega⟩) :=
    View.ld_unit_apply_of x _ _ _ _ _ (by intro a; fin_cases a <;> simp)
  have e' : View.ld (Val := Elt Ideal) s (Rect.unit ![2, 0] S1x256.size inb_S5x256_S1x256_2_0) (ix2 0 z0) = s (ix2 2 z0) :=
    View.ld_unit_apply_of s _ _ _ _ _ (by intro a; fin_cases a <;> simp)
  have ec : cols 2 (vB R x s) (ix2 z0 z1) = moment2 (x (ix2 z0 ⟨256 + z1.val, by omega⟩)) (s (ix2 2 z0)) (R (ix2 ⟨256 + z1.val, by omega⟩ z0)) :=
    congrArg (fun k => moment2 (x (ix2 z0 ⟨256 + z1.val, by omega⟩)) (s (ix2 k z0)) (R (ix2 ⟨256 + z1.val, by omega⟩ z0))) (col_of 2 z1 _)
  rw [ec, ← e, ← e']
  generalize View.ld (Val := Elt Ideal) x _ = X
  generalize View.ld (Val := Elt Ideal) s _ = S
  unfold moment2
  unfold_payloads
  pointwise []

theorem v_group3 (R : Vec Ideal S640x256 .f32) (x : Vec Ideal S256x640 .i8) (s : Vec Ideal S5x256 .f32) :
    k0_pay49 (F := Ideal) R (View.ld (Val := Elt Ideal) x (Rect.unit ![0, 384] S256x128.size inb_S256x640_S256x128_0_384)) (View.ld (Val := Elt Ideal) s (Rect.unit ![3, 0] S1x256.size inb_S5x256_S1x256_3_0)) = cols 3 (vB R x s) := by
  funext z; idx_vars z
  have e : View.ld (Val := Elt Ideal) x (Rect.unit ![0, 384] S256x128.size inb_S256x640_S256x128_0_384) (ix2 z0 z1) = x (ix2 z0 ⟨384 + z1.val, by omega⟩) :=
    View.ld_unit_apply_of x _ _ _ _ _ (by intro a; fin_cases a <;> simp)
  have e' : View.ld (Val := Elt Ideal) s (Rect.unit ![3, 0] S1x256.size inb_S5x256_S1x256_3_0) (ix2 0 z0) = s (ix2 3 z0) :=
    View.ld_unit_apply_of s _ _ _ _ _ (by intro a; fin_cases a <;> simp)
  have ec : cols 3 (vB R x s) (ix2 z0 z1) = moment2 (x (ix2 z0 ⟨384 + z1.val, by omega⟩)) (s (ix2 3 z0)) (R (ix2 ⟨384 + z1.val, by omega⟩ z0)) :=
    congrArg (fun k => moment2 (x (ix2 z0 ⟨384 + z1.val, by omega⟩)) (s (ix2 k z0)) (R (ix2 ⟨384 + z1.val, by omega⟩ z0))) (col_of 3 z1 _)
  rw [ec, ← e, ← e']
  generalize View.ld (Val := Elt Ideal) x _ = X
  generalize View.ld (Val := Elt Ideal) s _ = S
  unfold moment2
  unfold_payloads
  pointwise []

theorem v_group4 (R : Vec Ideal S640x256 .f32) (x : Vec Ideal S256x640 .i8) (s : Vec Ideal S5x256 .f32) :
    k0_pay58 (F := Ideal) R (View.ld (Val := Elt Ideal) x (Rect.unit ![0, 512] S256x128.size inb_S256x640_S256x128_0_512)) (View.ld (Val := Elt Ideal) s (Rect.unit ![4, 0] S1x256.size inb_S5x256_S1x256_4_0)) = cols 4 (vB R x s) := by
  funext z; idx_vars z
  have e : View.ld (Val := Elt Ideal) x (Rect.unit ![0, 512] S256x128.size inb_S256x640_S256x128_0_512) (ix2 z0 z1) = x (ix2 z0 ⟨512 + z1.val, by omega⟩) :=
    View.ld_unit_apply_of x _ _ _ _ _ (by intro a; fin_cases a <;> simp)
  have e' : View.ld (Val := Elt Ideal) s (Rect.unit ![4, 0] S1x256.size inb_S5x256_S1x256_4_0) (ix2 0 z0) = s (ix2 4 z0) :=
    View.ld_unit_apply_of s _ _ _ _ _ (by intro a; fin_cases a <;> simp)
  have ec : cols 4 (vB R x s) (ix2 z0 z1) = moment2 (x (ix2 z0 ⟨512 + z1.val, by omega⟩)) (s (ix2 4 z0)) (R (ix2 ⟨512 + z1.val, by omega⟩ z0)) :=
    congrArg (fun k => moment2 (x (ix2 z0 ⟨512 + z1.val, by omega⟩)) (s (ix2 k z0)) (R (ix2 ⟨512 + z1.val, by omega⟩ z0))) (col_of 4 z1 _)
  rw [ec, ← e, ← e']
  generalize View.ld (Val := Elt Ideal) x _ = X
  generalize View.ld (Val := Elt Ideal) s _ = S
  unfold moment2
  unfold_payloads
  pointwise []

end Cert.KernelIdeal.Step
-- ==== Proof.BlockGroups.lean ====
/-
  The scales, codes and directions the body computes for each group of 128 columns.
-/
module
public import proofs.«01_k».proof.Proof.BlockMoments
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

variable (f : S256x128.Idx → EReal)

/-- The scale of a row of 128 values. -/
theorem scale_rows : k0_pay17 (F := Ideal) f = fun z => scale (absMax fun l : Fin 128 => f (ix2 (z 0) l)) := by
  funext z; idx_vars z
  obtain rfl : z1 = 0 := Subsingleton.elim _ _
  unfold scale absMax
  unfold_payloads
  pointwise []

/-- The codes of rows of 128 values. -/
theorem code_rows : k0_pay18 (F := Ideal) f = fun z => code (f z) (scale (absMax fun l : Fin 128 => f (ix2 (z 0) l))) := by
  funext z; idx_vars z
  unfold k0_pay18
  rw [scale_rows]
  unfold code clip
  unfold_payloads
  pointwise []

theorem scale_rows29 : k0_pay29 (F := Ideal) f = k0_pay17 (F := Ideal) f := rfl
theorem scale_rows41 : k0_pay41 (F := Ideal) f = k0_pay17 (F := Ideal) f := rfl
theorem scale_rows52 : k0_pay52 (F := Ideal) f = k0_pay17 (F := Ideal) f := rfl
theorem scale_rows62 : k0_pay62 (F := Ideal) f = k0_pay17 (F := Ideal) f := rfl
theorem scale_rows19 : k0_pay19 (F := Ideal) f = k0_pay17 (F := Ideal) f := rfl
theorem scale_rows31 : k0_pay31 (F := Ideal) f = k0_pay17 (F := Ideal) f := rfl
theorem scale_rows43 : k0_pay43 (F := Ideal) f = k0_pay17 (F := Ideal) f := rfl
theorem scale_rows54 : k0_pay54 (F := Ideal) f = k0_pay17 (F := Ideal) f := rfl
theorem scale_rows64 : k0_pay64 (F := Ideal) f = k0_pay17 (F := Ideal) f := rfl
theorem code_rows30 : k0_pay30 (F := Ideal) f = k0_pay18 (F := Ideal) f := rfl
theorem code_rows42 : k0_pay42 (F := Ideal) f = k0_pay18 (F := Ideal) f := rfl
theorem code_rows53 : k0_pay53 (F := Ideal) f = k0_pay18 (F := Ideal) f := rfl
theorem code_rows63 : k0_pay63 (F := Ideal) f = k0_pay18 (F := Ideal) f := rfl
theorem code_rows55 : k0_pay55 (F := Ideal) f = k0_pay18 (F := Ideal) f := rfl
theorem code_rows65 : k0_pay65 (F := Ideal) f = k0_pay18 (F := Ideal) f := rfl
theorem code_rows21 : k0_pay21 (F := Ideal) (k0_pay20 f) = k0_pay18 (F := Ideal) f := rfl
theorem code_rows33 : k0_pay33 (F := Ideal) (k0_pay32 f) (Scalar.ofBits .f32 0xC2FE0000#32) (Scalar.ofBits .f32 0x42FE0000#32) = k0_pay18 (F := Ideal) f := rfl
theorem code_rows46 : k0_pay46 (F := Ideal) (k0_pay44 f) k0_pay45 = k0_pay18 (F := Ideal) f := rfl

variable (R : Vec Ideal S640x256 .f32) (x y : Vec Ideal S256x128 .i8) (s t : Vec Ideal S1x256 .f32)

theorem dir15 (v : FVec Ideal S256x128 .f32) : k0_pay15 (F := Ideal) v (k0_pay14 R x s) (Scalar.ofBits .f32 0x3C231ACC#32)
    = fun z => direction (k0_pay12 (F := Ideal) R x s z) (v z) := rfl
theorem dir27 : k0_pay27 (F := Ideal) (k0_pay25 R x s) (k0_pay26 R y t)
    = fun z => direction (k0_pay23 (F := Ideal) R x s z) (k0_pay24 (F := Ideal) R y t z) := rfl
theorem dir39 : k0_pay39 (F := Ideal) (k0_pay37 R x s) (k0_pay38 R y t)
    = fun z => direction (k0_pay35 (F := Ideal) R x s z) (k0_pay36 (F := Ideal) R y t z) := rfl
theorem dir50 : k0_pay50 (F := Ideal) R x s y t
    = fun z => direction (k0_pay48 (F := Ideal) R x s z) (k0_pay49 (F := Ideal) R y t z) := rfl
theorem dir59 : k0_pay59 (F := Ideal) R x s y t
    = fun z => direction (k0_pay57 (F := Ideal) R x s z) (k0_pay58 (F := Ideal) R y t z) := rfl

/-- A cast to the shape it has. -/
theorem recast {e : EltTy} (w : Vec Ideal S256x128 e) : shapeCast S256x128 w shapeCasts_S256x128_S256x128 = w := shapeCast_self w _

theorem low16 (v : FVec Ideal S256x128 .f32) (m : FVec Ideal S256x128 .f32) (b : Ideal .f32) : k0_pay16 (F := Ideal) v m b = k0_pay15 (F := Ideal) v m b :=
  recast (e := .bf16) _
theorem low28 (v m : FVec Ideal S256x128 .f32) : k0_pay28 (F := Ideal) v m = k0_pay27 (F := Ideal) v m := recast (e := .bf16) _
theorem low40 (v m : FVec Ideal S256x128 .f32) : k0_pay40 (F := Ideal) v m = k0_pay39 (F := Ideal) v m := recast (e := .bf16) _
theorem low51 (v : FVec Ideal S256x128 .f32) : k0_pay51 (F := Ideal) v = v := recast (e := .bf16) _
theorem low61 : k0_pay61 (F := Ideal) (k0_pay60 R x s y t) = k0_pay59 (F := Ideal) R x s y t := recast (e := .bf16) _

/-! ## The groups of a block -/

theorem scale_group (g : Fin 5) (f : S256x640.Idx → EReal) : k0_pay17 (F := Ideal) (cols g f) = scaleCol g f := scale_rows _

theorem code_group (g : Fin 5) (f : S256x640.Idx → EReal) : k0_pay18 (F := Ideal) (cols g f) = cols g (codeB f) := by
  rw [code_rows]
  funext z; idx_vars z
  exact (congrArg (fun k => code (cols g f (ix2 z0 z1)) (scaleAt f z0 k)) (col_of g z1 (by omega))).symm

theorem dir_group (g : Fin 5) (m v : S256x640.Idx → EReal) : (fun z => direction (cols g m z) (cols g v z)) = cols g (dirB m v) := rfl

/-- One group's store. -/
theorem group_fill {e : EltTy} (G : S256x640.Idx → Elt Ideal e) (g : Fin 5) (k : ℕ) (hk : k = 128 * g.val)
    (h : ∀ a, (![0, k] : Fin 2 → ℕ) a + S256x128.size a ≤ S256x640.size a) :
    Fills (e := e) G (fun y => (y 1).val / 128 = g.val) [⟨Rect.unit (s := S256x640) ![0, k] S256x128.size h, cols g G⟩] := by
  unfold Fills
  simp only [List.mem_singleton, forall_eq, exists_eq_left]
  refine ⟨fun z => congrArg G ?_, fun y hy => Rect.mem_set_unit.mpr ?_⟩
  · funext a; fin_cases a <;> exact Fin.ext (by simp [Rect.emb_apply, hk])
  · intro a
    have h0 : (y 0).val < 256 := (y 0).isLt
    fin_cases a
    · simpa using h0
    · simp; omega

/-- The five groups' stores leave the whole. -/
theorem groups_fill {e : EltTy} (G : S256x640.Idx → Elt Ideal e) : Fills (e := e) G (fun _ => True)
    [⟨Rect.unit ![0, 512] S256x128.size inb_S256x640_S256x128_0_512, cols 4 G⟩, ⟨Rect.unit ![0, 384] S256x128.size inb_S256x640_S256x128_0_384, cols 3 G⟩,
     ⟨Rect.unit ![0, 256] S256x128.size inb_S256x640_S256x128_0_256, cols 2 G⟩, ⟨Rect.unit ![0, 128] S256x128.size inb_S256x640_S256x128_0_128, cols 1 G⟩,
     ⟨Rect.unit ![0, 0] S256x128.size inb_S256x640_S256x128_0_0, cols 0 G⟩] :=
  ((group_fill G 4 512 rfl inb_S256x640_S256x128_0_512).append ((group_fill G 3 384 rfl inb_S256x640_S256x128_0_384).append
    ((group_fill G 2 256 rfl inb_S256x640_S256x128_0_256).append ((group_fill G 1 128 rfl inb_S256x640_S256x128_0_128).append
      (group_fill G 0 0 rfl inb_S256x640_S256x128_0_0))))).mono fun y _ => by
        have hy : (y 1).val < 640 := (y 1).isLt
        simp only [show ((4 : Fin 5) : ℕ) = 4 from rfl, show ((3 : Fin 5) : ℕ) = 3 from rfl, show ((2 : Fin 5) : ℕ) = 2 from rfl,
          show ((1 : Fin 5) : ℕ) = 1 from rfl, show ((0 : Fin 5) : ℕ) = 0 from rfl]
        omega

end Cert.KernelIdeal.Step
-- ==== Proof.BlockScales.lean ====
/-
  The block's rows of scales, and the weight's scales from the maxima carried over the chunks.
-/
module
public import proofs.«01_k».proof.Proof.BlockGroups
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

/-- Row `g` of the scales is group `g`'s column of them. -/
theorem scale_table (f : S256x640.Idx → EReal) :
    k0_pay66 (F := Ideal) (scaleCol 0 f) (scaleCol 1 f) (scaleCol 2 f) (scaleCol 3 f) (scaleCol 4 f) = scaleB f := by
  funext z; idx_vars z
  unfold k0_pay66
  pointwise []
  fin_cases z0 <;> rfl

theorem scale_table' (f : S256x640.Idx → EReal) :
    k0_pay68 (F := Ideal) (k0_pay67 (F := Ideal) (scaleCol 0 f) (scaleCol 1 f) (scaleCol 2 f) (scaleCol 3 f) (scaleCol 4 f)) = scaleB f :=
  scale_table f

/-- A row's old scale, spread over 128 lanes. -/
theorem pay69_apply (v : Vec Ideal S1x256 .f32) (o : Fin 256) (l : Fin 128) : k0_pay69 (F := Ideal) v (ix2 o l) = v (ix2 0 o) := by
  unfold k0_pay69
  pointwise []

/-- The scales of the new weight's rows. -/
theorem pay75_apply (M : FVec Ideal S256x128 .f32) (o : Fin 256) :
    k0_pay75 (F := Ideal) M (ix2 o 0) = scale (Finset.fold max (lit 0xFF800000#32) (fun l : Fin 128 => M (ix2 o l)) Finset.univ) := by
  unfold scale
  unfold k0_pay75
  pointwise []

theorem pay76_apply (M : FVec Ideal S256x128 .f32) (o : Fin 256) : k0_pay76 (F := Ideal) M (ix2 0 o) = k0_pay75 (F := Ideal) M (ix2 o 0) := by
  unfold k0_pay76
  generalize k0_pay75 (F := Ideal) M = w
  pointwise []

theorem pay77_apply (M : FVec Ideal S256x128 .f32) (o : Fin 256) (l : Fin 128) :
    k0_pay77 (F := Ideal) M (ix2 o l) = Ideal.div 1 (k0_pay75 (F := Ideal) M (ix2 o 0)) := by
  unfold k0_pay77
  generalize k0_pay75 (F := Ideal) M = w
  pointwise []

end Cert.KernelIdeal.Step
-- ==== Proof.BlockRead.lean ====
/-
  The buffers the body stores group by group, read back: the direction (twice), the codes and the scales of both moments.
-/
module
public import proofs.«01_k».proof.Proof.BlockScales
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

/-- Group 0 of an array of codes, loaded. -/
def lx0 (a : Memref sig .tc .vmem S256x640 .i8) (X : BufTy.Contents (Elt Ideal) a.view.ty) : Vec Ideal S256x128 .i8 :=
  View.readAt (Elt Ideal) a.view (Rect.unit (s := S256x640) ![0, 0] S256x128.size inb_S256x640_S256x128_0_0).toLoadRect X

/-- Group 0's row of scales, loaded. -/
def ls0 (a : Memref sig .tc .vmem S5x256 .f32) (X : BufTy.Contents (Elt Ideal) a.view.ty) : Vec Ideal S1x256 .f32 :=
  View.readAt (Elt Ideal) a.view (Rect.unit (s := S5x256) ![0, 0] S1x256.size inb_S5x256_S1x256_0_0).toLoadRect X

theorem lx0_eq (a : Memref sig .tc .vmem S256x640 .i8) (X : BufTy.Contents (Elt Ideal) a.view.ty) :
    lx0 a X = View.ld (a.view.read (Elt Ideal) X) (Rect.unit (s := S256x640) ![0, 0] S256x128.size inb_S256x640_S256x128_0_0) := rfl

theorem ls0_eq (a : Memref sig .tc .vmem S5x256 .f32) (X : BufTy.Contents (Elt Ideal) a.view.ty) :
    ls0 a X = View.ld (a.view.read (Elt Ideal) X) (Rect.unit (s := S5x256) ![0, 0] S1x256.size inb_S5x256_S1x256_0_0) := rfl

/-- Group 1 of an array of codes, loaded. -/
def lx1 (a : Memref sig .tc .vmem S256x640 .i8) (X : BufTy.Contents (Elt Ideal) a.view.ty) : Vec Ideal S256x128 .i8 :=
  View.readAt (Elt Ideal) a.view (Rect.unit (s := S256x640) ![0, 128] S256x128.size inb_S256x640_S256x128_0_128).toLoadRect X

/-- Group 1's row of scales, loaded. -/
def ls1 (a : Memref sig .tc .vmem S5x256 .f32) (X : BufTy.Contents (Elt Ideal) a.view.ty) : Vec Ideal S1x256 .f32 :=
  View.readAt (Elt Ideal) a.view (Rect.unit (s := S5x256) ![1, 0] S1x256.size inb_S5x256_S1x256_1_0).toLoadRect X

theorem lx1_eq (a : Memref sig .tc .vmem S256x640 .i8) (X : BufTy.Contents (Elt Ideal) a.view.ty) :
    lx1 a X = View.ld (a.view.read (Elt Ideal) X) (Rect.unit (s := S256x640) ![0, 128] S256x128.size inb_S256x640_S256x128_0_128) := rfl

theorem ls1_eq (a : Memref sig .tc .vmem S5x256 .f32) (X : BufTy.Contents (Elt Ideal) a.view.ty) :
    ls1 a X = View.ld (a.view.read (Elt Ideal) X) (Rect.unit (s := S5x256) ![1, 0] S1x256.size inb_S5x256_S1x256_1_0) := rfl

/-- Group 2 of an array of codes, loaded. -/
def lx2 (a : Memref sig .tc .vmem S256x640 .i8) (X : BufTy.Contents (Elt Ideal) a.view.ty) : Vec Ideal S256x128 .i8 :=
  View.readAt (Elt Ideal) a.view (Rect.unit (s := S256x640) ![0, 256] S256x128.size inb_S256x640_S256x128_0_256).toLoadRect X

/-- Group 2's row of scales, loaded. -/
def ls2 (a : Memref sig .tc .vmem S5x256 .f32) (X : BufTy.Contents (Elt Ideal) a.view.ty) : Vec Ideal S1x256 .f32 :=
  View.readAt (Elt Ideal) a.view (Rect.unit (s := S5x256) ![2, 0] S1x256.size inb_S5x256_S1x256_2_0).toLoadRect X

theorem lx2_eq (a : Memref sig .tc .vmem S256x640 .i8) (X : BufTy.Contents (Elt Ideal) a.view.ty) :
    lx2 a X = View.ld (a.view.read (Elt Ideal) X) (Rect.unit (s := S256x640) ![0, 256] S256x128.size inb_S256x640_S256x128_0_256) := rfl

theorem ls2_eq (a : Memref sig .tc .vmem S5x256 .f32) (X : BufTy.Contents (Elt Ideal) a.view.ty) :
    ls2 a X = View.ld (a.view.read (Elt Ideal) X) (Rect.unit (s := S5x256) ![2, 0] S1x256.size inb_S5x256_S1x256_2_0) := rfl

/-- Group 3 of an array of codes, loaded. -/
def lx3 (a : Memref sig .tc .vmem S256x640 .i8) (X : BufTy.Contents (Elt Ideal) a.view.ty) : Vec Ideal S256x128 .i8 :=
  View.readAt (Elt Ideal) a.view (Rect.unit (s := S256x640) ![0, 384] S256x128.size inb_S256x640_S256x128_0_384).toLoadRect X

/-- Group 3's row of scales, loaded. -/
def ls3 (a : Memref sig .tc .vmem S5x256 .f32) (X : BufTy.Contents (Elt Ideal) a.view.ty) : Vec Ideal S1x256 .f32 :=
  View.readAt (Elt Ideal) a.view (Rect.unit (s := S5x256) ![3, 0] S1x256.size inb_S5x256_S1x256_3_0).toLoadRect X

theorem lx3_eq (a : Memref sig .tc .vmem S256x640 .i8) (X : BufTy.Contents (Elt Ideal) a.view.ty) :
    lx3 a X = View.ld (a.view.read (Elt Ideal) X) (Rect.unit (s := S256x640) ![0, 384] S256x128.size inb_S256x640_S256x128_0_384) := rfl

theorem ls3_eq (a : Memref sig .tc .vmem S5x256 .f32) (X : BufTy.Contents (Elt Ideal) a.view.ty) :
    ls3 a X = View.ld (a.view.read (Elt Ideal) X) (Rect.unit (s := S5x256) ![3, 0] S1x256.size inb_S5x256_S1x256_3_0) := rfl

/-- Group 4 of an array of codes, loaded. -/
def lx4 (a : Memref sig .tc .vmem S256x640 .i8) (X : BufTy.Contents (Elt Ideal) a.view.ty) : Vec Ideal S256x128 .i8 :=
  View.readAt (Elt Ideal) a.view (Rect.unit (s := S256x640) ![0, 512] S256x128.size inb_S256x640_S256x128_0_512).toLoadRect X

/-- Group 4's row of scales, loaded. -/
def ls4 (a : Memref sig .tc .vmem S5x256 .f32) (X : BufTy.Contents (Elt Ideal) a.view.ty) : Vec Ideal S1x256 .f32 :=
  View.readAt (Elt Ideal) a.view (Rect.unit (s := S5x256) ![4, 0] S1x256.size inb_S5x256_S1x256_4_0).toLoadRect X

theorem lx4_eq (a : Memref sig .tc .vmem S256x640 .i8) (X : BufTy.Contents (Elt Ideal) a.view.ty) :
    lx4 a X = View.ld (a.view.read (Elt Ideal) X) (Rect.unit (s := S256x640) ![0, 512] S256x128.size inb_S256x640_S256x128_0_512) := rfl

theorem ls4_eq (a : Memref sig .tc .vmem S5x256 .f32) (X : BufTy.Contents (Elt Ideal) a.view.ty) :
    ls4 a X = View.ld (a.view.read (Elt Ideal) X) (Rect.unit (s := S5x256) ![4, 0] S1x256.size inb_S5x256_S1x256_4_0) := rfl

/-- What pieces that fill the buffer leave in it. -/
theorem read_fills {S : Shape} {e : EltTy} (a : Memref sig .tc .vmem S e) (f : BufTy.Contents (Elt Ideal) a.view.ty)
    {G : S.Idx → Elt Ideal e} {K : S.Idx → Prop} {L : List (View.Piece (Elt Ideal) S e)} (h : Fills G K L) (hK : ∀ y, K y) :
    a.view.read (Elt Ideal) (a.view.writes (Elt Ideal) f L) = G :=
  (View.read_writes_eq_canon a.view f L fun y => h.2 y (hK y)).trans (h.canon hK)

/-- What one store of the whole leaves. -/
theorem read_whole {S : Shape} {e : EltTy} (a : Memref sig .tc .vmem S e) (f : BufTy.Contents (Elt Ideal) a.view.ty)
    {off : Fin S.rank → ℕ} (h : off = fun _ => 0) (inb : ∀ k, off k + S.size k ≤ S.size k) (w : S.Idx → Elt Ideal e) (L : List (View.Piece (Elt Ideal) S e)) :
    a.view.read (Elt Ideal) (a.view.writes (Elt Ideal) f (⟨Rect.unit off S.size inb, w⟩ :: L)) = w := by
  refine (View.read_writes_eq_canon a.view f _ fun y => ⟨_, List.mem_cons_self, ?_⟩).trans (View.canon_cons_unit_zero h inb w L)
  subst h
  show y ∈ (Rect.whole S).set
  rw [Rect.set_whole]; exact Finset.mem_univ y

variable (R : Vec Ideal S640x256 .f32) (arg6 : Memref sig .tc .vmem S256x640 .i8) (arg7 : Memref sig .tc .vmem S5x256 .f32) (X6 : BufTy.Contents (Elt Ideal) arg6.view.ty) (X7 : BufTy.Contents (Elt Ideal) arg7.view.ty)
  (arg8 : Memref sig .tc .vmem S256x640 .i8) (arg9 : Memref sig .tc .vmem S5x256 .f32) (X8 : BufTy.Contents (Elt Ideal) arg8.view.ty) (X9 : BufTy.Contents (Elt Ideal) arg9.view.ty)
  (x5 x7 : Vec Ideal S256x640 .i8) (x6 x8 : Vec Ideal S5x256 .f32)

/-- The stores of the direction. -/
def dirL (R : Vec Ideal S640x256 .f32) (arg6 : Memref sig .tc .vmem S256x640 .i8) (arg7 : Memref sig .tc .vmem S5x256 .f32) (X6 : BufTy.Contents (Elt Ideal) arg6.view.ty) (X7 : BufTy.Contents (Elt Ideal) arg7.view.ty)
    (arg8 : Memref sig .tc .vmem S256x640 .i8) (arg9 : Memref sig .tc .vmem S5x256 .f32) (X8 : BufTy.Contents (Elt Ideal) arg8.view.ty) (X9 : BufTy.Contents (Elt Ideal) arg9.view.ty) : List (View.Piece (Elt Ideal) S256x640 .f32) :=
  [⟨Rect.unit ![0, 512] S256x128.size inb_S256x640_S256x128_0_512, k0_pay59 (F := Ideal) R (lx4 arg6 X6) (ls4 arg7 X7) (lx4 arg8 X8) (ls4 arg9 X9)⟩,
   ⟨Rect.unit ![0, 384] S256x128.size inb_S256x640_S256x128_0_384, (k0_pay50 (F := Ideal) R (lx3 arg6 X6) (ls3 arg7 X7) (lx3 arg8 X8) (ls3 arg9 X9))⟩,
   ⟨Rect.unit ![0, 256] S256x128.size inb_S256x640_S256x128_0_256, k0_pay39 (F := Ideal) (k0_pay37 (F := Ideal) R (lx2 arg6 X6) (ls2 arg7 X7)) (k0_pay38 (F := Ideal) R (lx2 arg8 X8) (ls2 arg9 X9))⟩,
   ⟨Rect.unit ![0, 128] S256x128.size inb_S256x640_S256x128_0_128, k0_pay27 (F := Ideal) (k0_pay25 (F := Ideal) R (lx1 arg6 X6) (ls1 arg7 X7)) (k0_pay26 (F := Ideal) R (lx1 arg8 X8) (ls1 arg9 X9))⟩,
   ⟨Rect.unit ![0, 0] S256x128.size inb_S256x640_S256x128_0_0, k0_pay15 (F := Ideal) (k0_pay13 (F := Ideal) R (lx0 arg8 X8) (ls0 arg9 X9)) (k0_pay14 (F := Ideal) R (lx0 arg6 X6) (ls0 arg7 X7)) (Scalar.ofBits .f32 0x3C231ACC#32)⟩]

/-- The stores of the direction for the product with the projector. -/
def lowL (R : Vec Ideal S640x256 .f32) (arg6 : Memref sig .tc .vmem S256x640 .i8) (arg7 : Memref sig .tc .vmem S5x256 .f32) (X6 : BufTy.Contents (Elt Ideal) arg6.view.ty) (X7 : BufTy.Contents (Elt Ideal) arg7.view.ty)
    (arg8 : Memref sig .tc .vmem S256x640 .i8) (arg9 : Memref sig .tc .vmem S5x256 .f32) (X8 : BufTy.Contents (Elt Ideal) arg8.view.ty) (X9 : BufTy.Contents (Elt Ideal) arg9.view.ty) : List (View.Piece (Elt Ideal) S256x640 .bf16) :=
  [⟨Rect.unit ![0, 512] S256x128.size inb_S256x640_S256x128_0_512, k0_pay61 (F := Ideal) (k0_pay60 (F := Ideal) R (lx4 arg6 X6) (ls4 arg7 X7) (lx4 arg8 X8) (ls4 arg9 X9))⟩,
   ⟨Rect.unit ![0, 384] S256x128.size inb_S256x640_S256x128_0_384, k0_pay51 (F := Ideal) (k0_pay50 (F := Ideal) R (lx3 arg6 X6) (ls3 arg7 X7) (lx3 arg8 X8) (ls3 arg9 X9))⟩,
   ⟨Rect.unit ![0, 256] S256x128.size inb_S256x640_S256x128_0_256, k0_pay40 (F := Ideal) (k0_pay37 (F := Ideal) R (lx2 arg6 X6) (ls2 arg7 X7)) (k0_pay38 (F := Ideal) R (lx2 arg8 X8) (ls2 arg9 X9))⟩,
   ⟨Rect.unit ![0, 128] S256x128.size inb_S256x640_S256x128_0_128, k0_pay28 (F := Ideal) (k0_pay25 (F := Ideal) R (lx1 arg6 X6) (ls1 arg7 X7)) (k0_pay26 (F := Ideal) R (lx1 arg8 X8) (ls1 arg9 X9))⟩,
   ⟨Rect.unit ![0, 0] S256x128.size inb_S256x640_S256x128_0_0, k0_pay16 (F := Ideal) (k0_pay13 (F := Ideal) R (lx0 arg8 X8) (ls0 arg9 X9)) (k0_pay14 (F := Ideal) R (lx0 arg6 X6) (ls0 arg7 X7)) (Scalar.ofBits .f32 0x3C231ACC#32)⟩]

/-- The stores of the first moment's codes. -/
def mCodeL (R : Vec Ideal S640x256 .f32) (arg6 : Memref sig .tc .vmem S256x640 .i8) (arg7 : Memref sig .tc .vmem S5x256 .f32) (X6 : BufTy.Contents (Elt Ideal) arg6.view.ty) (X7 : BufTy.Contents (Elt Ideal) arg7.view.ty) : List (View.Piece (Elt Ideal) S256x640 .i8) :=
  [⟨Rect.unit ![0, 512] S256x128.size inb_S256x640_S256x128_0_512, k0_pay63 (F := Ideal) (k0_pay57 (F := Ideal) R (lx4 arg6 X6) (ls4 arg7 X7))⟩,
   ⟨Rect.unit ![0, 384] S256x128.size inb_S256x640_S256x128_0_384, k0_pay53 (F := Ideal) (k0_pay48 (F := Ideal) R (lx3 arg6 X6) (ls3 arg7 X7))⟩,
   ⟨Rect.unit ![0, 256] S256x128.size inb_S256x640_S256x128_0_256, k0_pay42 (F := Ideal) (k0_pay35 (F := Ideal) R (lx2 arg6 X6) (ls2 arg7 X7))⟩,
   ⟨Rect.unit ![0, 128] S256x128.size inb_S256x640_S256x128_0_128, k0_pay30 (F := Ideal) (k0_pay23 (F := Ideal) R (lx1 arg6 X6) (ls1 arg7 X7))⟩,
   ⟨Rect.unit ![0, 0] S256x128.size inb_S256x640_S256x128_0_0, k0_pay18 (F := Ideal) (k0_pay12 (F := Ideal) R (lx0 arg6 X6) (ls0 arg7 X7))⟩]

/-- The stores of the second moment's codes. -/
def vCodeL (R : Vec Ideal S640x256 .f32) (arg8 : Memref sig .tc .vmem S256x640 .i8) (arg9 : Memref sig .tc .vmem S5x256 .f32) (X8 : BufTy.Contents (Elt Ideal) arg8.view.ty) (X9 : BufTy.Contents (Elt Ideal) arg9.view.ty) : List (View.Piece (Elt Ideal) S256x640 .i8) :=
  [⟨Rect.unit ![0, 512] S256x128.size inb_S256x640_S256x128_0_512, k0_pay65 (F := Ideal) (k0_pay58 (F := Ideal) R (lx4 arg8 X8) (ls4 arg9 X9))⟩,
   ⟨Rect.unit ![0, 384] S256x128.size inb_S256x640_S256x128_0_384, (k0_pay55 (F := Ideal) (k0_pay49 (F := Ideal) R (lx3 arg8 X8) (ls3 arg9 X9)))⟩,
   ⟨Rect.unit ![0, 256] S256x128.size inb_S256x640_S256x128_0_256, k0_pay46 (F := Ideal) (k0_pay44 (F := Ideal) (k0_pay36 (F := Ideal) R (lx2 arg8 X8) (ls2 arg9 X9))) k0_pay45⟩,
   ⟨Rect.unit ![0, 128] S256x128.size inb_S256x640_S256x128_0_128, k0_pay33 (F := Ideal) (k0_pay32 (F := Ideal) (k0_pay24 (F := Ideal) R (lx1 arg8 X8) (ls1 arg9 X9))) (Scalar.ofBits .f32 0xC2FE0000#32) (Scalar.ofBits .f32 0x42FE0000#32)⟩,
   ⟨Rect.unit ![0, 0] S256x128.size inb_S256x640_S256x128_0_0, k0_pay21 (F := Ideal) (k0_pay20 (F := Ideal) (k0_pay13 (F := Ideal) R (lx0 arg8 X8) (ls0 arg9 X9)))⟩]

/-- The store of the first moment's scales. -/
def mScaleL (R : Vec Ideal S640x256 .f32) (arg6 : Memref sig .tc .vmem S256x640 .i8) (arg7 : Memref sig .tc .vmem S5x256 .f32) (X6 : BufTy.Contents (Elt Ideal) arg6.view.ty) (X7 : BufTy.Contents (Elt Ideal) arg7.view.ty) : List (View.Piece (Elt Ideal) S5x256 .f32) :=
  [⟨Rect.unit ![0, 0] S5x256.size inb_S5x256_S5x256_0_0, k0_pay66 (F := Ideal) (k0_pay17 (F := Ideal) (k0_pay12 (F := Ideal) R (lx0 arg6 X6) (ls0 arg7 X7))) (k0_pay29 (F := Ideal) (k0_pay23 (F := Ideal) R (lx1 arg6 X6) (ls1 arg7 X7))) (k0_pay41 (F := Ideal) (k0_pay35 (F := Ideal) R (lx2 arg6 X6) (ls2 arg7 X7))) (k0_pay52 (F := Ideal) (k0_pay48 (F := Ideal) R (lx3 arg6 X6) (ls3 arg7 X7))) (k0_pay62 (F := Ideal) (k0_pay57 (F := Ideal) R (lx4 arg6 X6) (ls4 arg7 X7)))⟩]

/-- The store of the second moment's scales. -/
def vScaleL (R : Vec Ideal S640x256 .f32) (arg8 : Memref sig .tc .vmem S256x640 .i8) (arg9 : Memref sig .tc .vmem S5x256 .f32) (X8 : BufTy.Contents (Elt Ideal) arg8.view.ty) (X9 : BufTy.Contents (Elt Ideal) arg9.view.ty) : List (View.Piece (Elt Ideal) S5x256 .f32) :=
  [⟨Rect.unit ![0, 0] S5x256.size inb_S5x256_S5x256_0_0, k0_pay68 (F := Ideal) (k0_pay67 (F := Ideal) (k0_pay19 (F := Ideal) (k0_pay13 (F := Ideal) R (lx0 arg8 X8) (ls0 arg9 X9))) (k0_pay31 (F := Ideal) (k0_pay24 (F := Ideal) R (lx1 arg8 X8) (ls1 arg9 X9))) (k0_pay43 (F := Ideal) (k0_pay36 (F := Ideal) R (lx2 arg8 X8) (ls2 arg9 X9))) (k0_pay54 (F := Ideal) (k0_pay49 (F := Ideal) R (lx3 arg8 X8) (ls3 arg9 X9))) (k0_pay64 (F := Ideal) (k0_pay58 (F := Ideal) R (lx4 arg8 X8) (ls4 arg9 X9))))⟩]

theorem read_dir (a : Memref sig .tc .vmem S256x640 .f32) (f : BufTy.Contents (Elt Ideal) a.view.ty) (h6 : arg6.view.read (Elt Ideal) X6 = x5) (h7 : arg7.view.read (Elt Ideal) X7 = x6) (h8 : arg8.view.read (Elt Ideal) X8 = x7) (h9 : arg9.view.read (Elt Ideal) X9 = x8) :
    a.view.read (Elt Ideal) (a.view.writes (Elt Ideal) f (dirL R arg6 arg7 X6 X7 arg8 arg9 X8 X9)) = dirB (mB R x5 x6) (vB R x7 x8) := by
  unfold dirL
  simp only [lx0_eq, lx1_eq, lx2_eq, lx3_eq, lx4_eq, ls0_eq, ls1_eq, ls2_eq, ls3_eq, ls4_eq, h6, h7, h8, h9, dir15, dir27, dir39, dir50, dir59, m_group0, m_group1, m_group2, m_group3, m_group4, v_group0, v_group1, v_group2, v_group3, v_group4, dir_group]
  exact read_fills a f (groups_fill _) fun _ => trivial

theorem read_low (a : Memref sig .tc .vmem S256x640 .bf16) (f : BufTy.Contents (Elt Ideal) a.view.ty) (h6 : arg6.view.read (Elt Ideal) X6 = x5) (h7 : arg7.view.read (Elt Ideal) X7 = x6) (h8 : arg8.view.read (Elt Ideal) X8 = x7) (h9 : arg9.view.read (Elt Ideal) X9 = x8) :
    a.view.read (Elt Ideal) (a.view.writes (Elt Ideal) f (lowL R arg6 arg7 X6 X7 arg8 arg9 X8 X9)) = dirB (mB R x5 x6) (vB R x7 x8) := by
  unfold lowL
  simp only [lx0_eq, lx1_eq, lx2_eq, lx3_eq, lx4_eq, ls0_eq, ls1_eq, ls2_eq, ls3_eq, ls4_eq, h6, h7, h8, h9, low16, low28, low40, low51, low61, dir15, dir27, dir39, dir50, dir59, m_group0, m_group1, m_group2, m_group3, m_group4, v_group0, v_group1, v_group2, v_group3, v_group4, dir_group]
  exact read_fills a f (groups_fill _) fun _ => trivial

theorem read_mCode (a : Memref sig .tc .vmem S256x640 .i8) (f : BufTy.Contents (Elt Ideal) a.view.ty) (h6 : arg6.view.read (Elt Ideal) X6 = x5) (h7 : arg7.view.read (Elt Ideal) X7 = x6) :
    a.view.read (Elt Ideal) (a.view.writes (Elt Ideal) f (mCodeL R arg6 arg7 X6 X7)) = codeB (mB R x5 x6) := by
  unfold mCodeL
  simp only [lx0_eq, lx1_eq, lx2_eq, lx3_eq, lx4_eq, ls0_eq, ls1_eq, ls2_eq, ls3_eq, ls4_eq, h6, h7, m_group0, m_group1, m_group2, m_group3, m_group4, code_rows30, code_rows42, code_rows53, code_rows63, code_rows55, code_rows65, code_rows21, code_rows33, code_rows46, code_group]
  exact read_fills a f (groups_fill _) fun _ => trivial

theorem read_vCode (a : Memref sig .tc .vmem S256x640 .i8) (f : BufTy.Contents (Elt Ideal) a.view.ty) (h8 : arg8.view.read (Elt Ideal) X8 = x7) (h9 : arg9.view.read (Elt Ideal) X9 = x8) :
    a.view.read (Elt Ideal) (a.view.writes (Elt Ideal) f (vCodeL R arg8 arg9 X8 X9)) = codeB (vB R x7 x8) := by
  unfold vCodeL
  simp only [lx0_eq, lx1_eq, lx2_eq, lx3_eq, lx4_eq, ls0_eq, ls1_eq, ls2_eq, ls3_eq, ls4_eq, h8, h9, v_group0, v_group1, v_group2, v_group3, v_group4, code_rows30, code_rows42, code_rows53, code_rows63, code_rows55, code_rows65, code_rows21, code_rows33, code_rows46, code_group]
  exact read_fills a f (groups_fill _) fun _ => trivial

theorem read_mScale (a : Memref sig .tc .vmem S5x256 .f32) (f : BufTy.Contents (Elt Ideal) a.view.ty) (h6 : arg6.view.read (Elt Ideal) X6 = x5) (h7 : arg7.view.read (Elt Ideal) X7 = x6) :
    a.view.read (Elt Ideal) (a.view.writes (Elt Ideal) f (mScaleL R arg6 arg7 X6 X7)) = scaleB (mB R x5 x6) := by
  unfold mScaleL
  simp only [lx0_eq, lx1_eq, lx2_eq, lx3_eq, lx4_eq, ls0_eq, ls1_eq, ls2_eq, ls3_eq, ls4_eq, h6, h7, m_group0, m_group1, m_group2, m_group3, m_group4, scale_rows29, scale_rows41, scale_rows52, scale_rows62, scale_rows19, scale_rows31, scale_rows43, scale_rows54, scale_rows64, scale_group, scale_table]
  exact read_whole a f (by funext k; fin_cases k <;> rfl) _ _ []

theorem read_vScale (a : Memref sig .tc .vmem S5x256 .f32) (f : BufTy.Contents (Elt Ideal) a.view.ty) (h8 : arg8.view.read (Elt Ideal) X8 = x7) (h9 : arg9.view.read (Elt Ideal) X9 = x8) :
    a.view.read (Elt Ideal) (a.view.writes (Elt Ideal) f (vScaleL R arg8 arg9 X8 X9)) = scaleB (vB R x7 x8) := by
  unfold vScaleL
  simp only [lx0_eq, lx1_eq, lx2_eq, lx3_eq, lx4_eq, ls0_eq, ls1_eq, ls2_eq, ls3_eq, ls4_eq, h8, h9, v_group0, v_group1, v_group2, v_group3, v_group4, scale_rows29, scale_rows41, scale_rows52, scale_rows62, scale_rows19, scale_rows31, scale_rows43, scale_rows54, scale_rows64, scale_group, scale_table']
  exact read_whole a f (by funext k; fin_cases k <;> rfl) _ _ []

end Cert.KernelIdeal.Step
-- ==== Proof.LoopPrep.lean ====
/-
  The first loop, which runs at the first block of rows: chunk by chunk it leaves the dequantised projector and the
  transposed activations in the two scratch buffers.
-/
module
public import proofs.«01_k».proof.Proof.Payload
public import proofs.«01_k».proof.Proof.Gen.KernelIdeal.Loops
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole)

variable (k0_h1 : k0_cond1 i = 1#1) (X1 : BufTy.Contents (Elt Ideal) arg1.view.ty) (X3 : BufTy.Contents (Elt Ideal) arg3.view.ty)
  (X4 : BufTy.Contents (Elt Ideal) arg4.view.ty) (X5 : BufTy.Contents (Elt Ideal) arg5.view.ty)
  (x0 : Vec Ideal S256x6144 .bf16) (x2 : Vec Ideal S640x3072 .i8) (x3 x4 : Vec Ideal S24x640 .f32)

/-- Entry `c` of chunk `k` of row `j` of the projector, from the blocks of codes, scales and zero points. -/
def projAt (x2 : Vec Ideal S640x3072 .i8) (x3 x4 : Vec Ideal S24x640 .f32) (k : Fin 24) (j : Fin 640) (c : Fin 256) : EReal :=
  deq (half (x2 (ix2 j ⟨128 * k.val + c.val / 2, by omega⟩)) (c.val % 2 = 1)) (x4 (ix2 k j)) (x3 (ix2 k j))

/-- Entry `a` of chunk `k` of token `t` of the activations. -/
def actAt (x0 : Vec Ideal S256x6144 .bf16) (k : Fin 24) (a t : Fin 256) : EReal :=
  x0 (ix2 t ⟨256 * k.val + a.val, by omega⟩)

/-- The projector's scratch buffer. -/
def projB (x2 : Vec Ideal S640x3072 .i8) (x3 x4 : Vec Ideal S24x640 .f32) : S24x640x256.Idx → EReal :=
  fun y => projAt x2 x3 x4 (y 0) (y 1) (y 2)

/-- The activations' scratch buffer. -/
def actB (x0 : Vec Ideal S256x6144 .bf16) : S24x256x256.Idx → EReal := fun y => actAt x0 (y 0) (y 1) (y 2)

/-- One trip writes one chunk of each. -/
theorem trip_prep (h1 : arg1.view.read (Elt Ideal) X1 = x0) (h3 : arg3.view.read (Elt Ideal) X3 = x2)
    (h4 : arg4.view.read (Elt Ideal) X4 = x3) (h5 : arg5.view.read (Elt Ideal) X5 = x4) (k : Fin k0_t1_loop.trips) :
    Fills (projB x2 x3 x4) (fun y => (y 0).val = k.val) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 k).1
      ∧ Fills (actB x0) (fun y => (y 0).val = k.val) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 k).2 := by
  unfold Fills
  unfold tripL_k0_t1 trip_k0_t1
  dsimp only
  simp only [List.mem_singleton, forall_eq, exists_eq_left]
  unfold trip_k0_t1.sl.r trip_k0_t1.sl.r_1
  simp only [View.readAt_eq_ld, h1, h3, h4, h5]
  have hk : k.val < 24 := k.isLt
  refine ⟨⟨fun z => ?_, fun y hy => ?_⟩, ⟨fun z => ?_, fun y hy => ?_⟩⟩
  · idx_vars z
    obtain rfl : z0 = 0 := Subsingleton.elim _ _
    refine (pay8_apply _ _ _ z1 z2).trans ?_
    rw [View.ld_unit_apply_of x2 _ _ _ _ (ix2 z1 ⟨128 * k.val + z2.val / 2, by omega⟩) (by intro a; fin_cases a <;> simp [k0_off3_eq]),
      View.ld_unit_apply_of x3 _ _ _ _ (ix2 ⟨k.val, hk⟩ z1) (by intro a; fin_cases a <;> simp [k0_off4_eq]),
      View.ld_unit_apply_of x4 _ _ _ _ (ix2 ⟨k.val, hk⟩ z1) (by intro a; fin_cases a <;> simp [k0_off4_eq])]
    refine Eq.trans ?_ (congrArg (projB x2 x3 x4) (show ix3 ⟨k.val, hk⟩ z1 z2 = _ from ?_))
    · rfl
    · funext a; fin_cases a <;> exact Fin.ext (by simp [Rect.emb_apply, k0_off5_eq])
  · refine Rect.mem_set_unit.mpr ?_
    intro a
    have := (y a).isLt
    fin_cases a <;> simp_all [k0_off5_eq]
  · idx_vars z
    obtain rfl : z0 = 0 := Subsingleton.elim _ _
    refine (pay2_apply _ z1 z2).trans ?_
    rw [View.ld_unit_apply_of x0 _ _ _ _ (ix2 z2 ⟨256 * k.val + z1.val, by omega⟩) (by intro a; fin_cases a <;> simp [k0_off1_eq])]
    refine Eq.trans ?_ (congrArg (actB x0) (show ix3 ⟨k.val, hk⟩ z1 z2 = _ from ?_))
    · rfl
    · funext a; fin_cases a <;> exact Fin.ext (by simp [Rect.emb_apply, k0_off2_eq])
  · refine Rect.mem_set_unit.mpr ?_
    intro a
    have := (y a).isLt
    fin_cases a <;> simp_all [k0_off2_eq]

/-- The trips before `n` write the chunks before `n`. -/
theorem prep_fills (h1 : arg1.view.read (Elt Ideal) X1 = x0) (h3 : arg3.view.read (Elt Ideal) X3 = x2)
    (h4 : arg4.view.read (Elt Ideal) X4 = x3) (h5 : arg5.view.read (Elt Ideal) X5 = x4) (n : ℕ) (hn : n ≤ 24) :
    Fills (projB x2 x3 x4) (fun y => (y 0).val < n) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 n).1
      ∧ Fills (actB x0) (fun y => (y 0).val < n) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 n).2 := by
  induction n with
  | zero => exact ⟨(Fills.nil _).mono fun y h => absurd h (Nat.not_lt_zero _), (Fills.nil _).mono fun y h => absurd h (Nat.not_lt_zero _)⟩
  | succ n ih =>
    have ht := trip_prep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 x0 x2 x3 x4 h1 h3 h4 h5 ⟨n, hn⟩
    have hi := ih (by omega)
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 ⟨n, hn⟩]
    exact ⟨(ht.1.append hi.1).mono fun y h => by simp only; omega, (ht.2.append hi.2).mono fun y h => by simp only; omega⟩

/-- The projector's scratch buffer after the loop. -/
theorem prep_proj (h1 : arg1.view.read (Elt Ideal) X1 = x0) (h3 : arg3.view.read (Elt Ideal) X3 = x2)
    (h4 : arg4.view.read (Elt Ideal) X4 = x3) (h5 : arg5.view.read (Elt Ideal) X5 = x4) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 k0_t1_loop.trips).1 = projB x2 x3 x4 :=
  (prep_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 x0 x2 x3 x4 h1 h3 h4 h5 24 le_rfl).1.canon fun y => (y 0).isLt

/-- The activations' scratch buffer after the loop. -/
theorem prep_act (h1 : arg1.view.read (Elt Ideal) X1 = x0) (h3 : arg3.view.read (Elt Ideal) X3 = x2)
    (h4 : arg4.view.read (Elt Ideal) X4 = x3) (h5 : arg5.view.read (Elt Ideal) X5 = x4) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 k0_t1_loop.trips).2 = actB x0 :=
  (prep_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 x0 x2 x3 x4 h1 h3 h4 h5 24 le_rfl).2.canon fun y => (y 0).isLt

end Cert.KernelIdeal.Step
-- ==== Proof.LoopLow.lean ====
/-
  The second loop: the projected gradient, summed over the chunks of columns.
-/
module
public import proofs.«01_k».proof.Proof.Payload
public import proofs.«01_k».proof.Proof.Gen.KernelIdeal.Loops
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole)

variable (X2 : BufTy.Contents (Elt Ideal) arg2.view.ty) (X21 : BufTy.Contents (Elt Ideal) arg21.view.ty) (X22 : BufTy.Contents (Elt Ideal) arg22.view.ty)
  (x1 : Vec Ideal S256x256 .bf16) (P : Vec Ideal S24x640x256 .bf16) (T : Vec Ideal S24x256x256 .bf16)

/-- One chunk's term: row `j` of the projector's chunk against the chunk of the gradient of column `o`. -/
def rtTerm (x1 : Vec Ideal S256x256 .bf16) (P : Vec Ideal S24x640x256 .bf16) (T : Vec Ideal S24x256x256 .bf16)
    (k : Fin 24) (j : Fin 640) (o : Fin 256) : EReal :=
  ∑ n : Fin 256, P (ix3 k j n) * ∑ t : Fin 256, T (ix3 k n t) * x1 (ix2 t o)

/-- One trip adds one chunk's term. -/
theorem trip_rt (h2 : arg2.view.read (Elt Ideal) X2 = x1) (h21 : arg21.view.read (Elt Ideal) X21 = P)
    (h22 : arg22.view.read (Elt Ideal) X22 = T) (k : Fin k0_t2_loop.trips) (acc : FVec Ideal S640x256 .f32) (j : Fin 640) (o : Fin 256) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 k acc (ix2 j o) = acc (ix2 j o) + rtTerm x1 P T k j o := by
  unfold tripR_k0_t2 trip_k0_t2
  dsimp only
  simp only [View.readAt_eq_ld, h2, h21, h22]
  refine (pay10_apply _ _ _ _ j o).trans ?_
  unfold rtTerm
  have e2 : ∀ t o : Fin 256, View.ld x1 (Rect.unit ![0, 0] ![256, 256] inb_S256x256_S256x256_0_0) (ix2 t o) = x1 (ix2 t o) :=
    fun t o => View.ld_unit_apply_of x1 _ _ _ _ _ (by intro a; fin_cases a <;> simp)
  refine congrArg _ (Finset.sum_congr rfl fun n _ => ?_)
  refine congrArg₂ (· * ·) ?_ (Finset.sum_congr rfl fun t _ => congrArg₂ (· * ·) ?_ (e2 t o))
  · exact View.ld_unit_apply_of P _ _ _ _ _ (by intro a; fin_cases a <;> simp [k0_off7_eq])
  · exact View.ld_unit_apply_of T _ _ _ _ _ (by intro a; fin_cases a <;> simp [k0_off6_eq])

/-- What the loop carries before trip `n`. -/
theorem rt_carried (h2 : arg2.view.read (Elt Ideal) X2 = x1) (h21 : arg21.view.read (Elt Ideal) X21 = P)
    (h22 : arg22.view.read (Elt Ideal) X22 = T) (init : FVec Ideal S640x256 .f32) (j : Fin 640) (o : Fin 256) (n : ℕ) (hn : n ≤ 24) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 init n (ix2 j o)
      = init (ix2 j o) + ∑ k ∈ Finset.range n, (if h : k < 24 then rtTerm x1 P T ⟨k, h⟩ j o else 0) := by
  induction n with
  | zero => rw [st_k0_t2_zero]; simp
  | succ n ih =>
    rw [st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 init ⟨n, hn⟩, trip_rt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 x1 P T h2 h21 h22, ih (by omega), Finset.sum_range_succ,
      dif_pos (show n < 24 from hn), add_assoc]
    rfl

/-- What the loop returns. -/
theorem rt_value (h2 : arg2.view.read (Elt Ideal) X2 = x1) (h21 : arg21.view.read (Elt Ideal) X21 = P)
    (h22 : arg22.view.read (Elt Ideal) X22 = T) (init : FVec Ideal S640x256 .f32) (j : Fin 640) (o : Fin 256) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 init k0_t2_loop.trips (ix2 j o) = init (ix2 j o) + ∑ k : Fin 24, rtTerm x1 P T k j o := by
  refine (rt_carried 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 x1 P T h2 h21 h22 init j o 24 le_rfl).trans ?_
  rw [Finset.sum_range]
  refine congrArg _ (Finset.sum_congr rfl fun k _ => dif_pos k.isLt)

end Cert.KernelIdeal.Step
-- ==== Proof.LoopDelta.lean ====
/-
  The third loop: chunk by chunk the change of the weight and the new weight, and the greatest absolute value of each row.
-/
module
public import proofs.«01_k».proof.Proof.Payload
public import proofs.«01_k».proof.Proof.Gen.KernelIdeal.Loops
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole)

variable (v444 : FVec Ideal S256x128 .f32) (X10 : BufTy.Contents (Elt Ideal) arg10.view.ty) (X21 : BufTy.Contents (Elt Ideal) arg21.view.ty)
  (X24 : BufTy.Contents (Elt Ideal) arg24.view.ty) (X26 : BufTy.Contents (Elt Ideal) arg26.view.ty)
  (x9 : Vec Ideal S256x6144 .i8) (P : Vec Ideal S24x640x256 .bf16) (N : Vec Ideal S256x640 .bf16) (s : Fin 256 → EReal)

/-- The change of the weight at row `o`, column `n`. -/
def deltaAt (P : Vec Ideal S24x640x256 .bf16) (N : Vec Ideal S256x640 .bf16) (o : Fin 256) (n : Fin 6144) : EReal :=
  lit 0x3A83126F#32 * ∑ j : Fin 640, N (ix2 o j) * P (ix3 ⟨n.val / 256, by omega⟩ j ⟨n.val % 256, by omega⟩)

/-- The new weight at row `o`, column `n`. -/
def weightAt (x9 : Vec Ideal S256x6144 .i8) (P : Vec Ideal S24x640x256 .bf16) (N : Vec Ideal S256x640 .bf16) (s : Fin 256 → EReal)
    (o : Fin 256) (n : Fin 6144) : EReal := num (x9 (ix2 o n)) * s o - deltaAt P N o n

def deltaB (P : Vec Ideal S24x640x256 .bf16) (N : Vec Ideal S256x640 .bf16) : S256x6144.Idx → EReal := fun y => deltaAt P N (y 0) (y 1)

def weightB (x9 : Vec Ideal S256x6144 .i8) (P : Vec Ideal S24x640x256 .bf16) (N : Vec Ideal S256x640 .bf16) (s : Fin 256 → EReal) :
    S256x6144.Idx → EReal := fun y => weightAt x9 P N s (y 0) (y 1)

theorem ld_dir (o : Fin 256) (j : Fin 640) : View.ld N (Rect.unit ![0, 0] ![256, 640] inb_S256x640_S256x640_0_0) (ix2 o j) = N (ix2 o j) :=
  View.ld_unit_apply_of N _ _ _ _ _ (by intro a; fin_cases a <;> simp)

theorem ld_proj (k : Fin k0_t3_loop.trips) (j : Fin 640) (c : Fin 256) :
    View.ld P (Rect.unit (k0_off8 k) ![1, 640, 256] (k0_off8_inb k)) (ix3 0 j c) = P (ix3 k j c) :=
  View.ld_unit_apply_of P _ _ _ _ _ (by intro a; fin_cases a <;> simp [k0_off8_eq])

/-- A chunk's term is the change of the weight at the chunk's column. -/
theorem delta_chunk (k : Fin k0_t3_loop.trips) (o c : Fin 256) (n : Fin 6144) (hn : n.val = 256 * k.val + c.val) :
    lit 0x3A83126F#32 * ∑ j : Fin 640, View.ld N (Rect.unit ![0, 0] ![256, 640] inb_S256x640_S256x640_0_0) (ix2 o j)
      * View.ld P (Rect.unit (k0_off8 k) ![1, 640, 256] (k0_off8_inb k)) (ix3 0 j c) = deltaAt P N o n := by
  unfold deltaAt
  refine congrArg _ (Finset.sum_congr rfl fun j _ => ?_)
  have ek : (⟨n.val / 256, by omega⟩ : Fin 24) = k := Fin.ext (by simp only; omega)
  have ec : (⟨n.val % 256, by omega⟩ : Fin 256) = c := Fin.ext (by simp only; omega)
  rw [ek, ec]
  exact congrArg₂ (· * ·) (ld_dir N o j) (ld_proj P k j c)

theorem ld_codes (k : Fin k0_t3_loop.trips) (o c : Fin 256) (n : Fin 6144) (hn : n.val = 256 * k.val + c.val) :
    View.ld x9 (Rect.unit (k0_off9 k) ![256, 256] (k0_off9_inb k)) (ix2 o c) = x9 (ix2 o n) :=
  View.ld_unit_apply_of x9 _ _ _ _ _ (by intro a; fin_cases a <;> simp [k0_off9_eq, hn])

/-- One trip writes one chunk of each. -/
theorem trip_delta (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o)
    (k : Fin k0_t3_loop.trips) (acc : FVec Ideal S256x128 .f32) :
    Fills (deltaB P N) (fun y => (y 1).val / 256 = k.val) (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 k acc).1
      ∧ Fills (weightB x9 P N s) (fun y => (y 1).val / 256 = k.val) (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 k acc).2 := by
  unfold Fills
  unfold tripL_k0_t3 trip_k0_t3
  dsimp only
  simp only [List.mem_singleton, forall_eq, exists_eq_left]
  simp only [View.readAt_eq_ld, h10, h21, h24]
  have hk : k.val < 24 := k.isLt
  have h26' : ∀ o l, View.ld (arg26.view.read (Elt Ideal) X26) (Rect.unit ![0, 0] ![256, 128] inb_S256x128_S256x128_0_0) (ix2 o l) = s o :=
    fun o l => (View.ld_unit_apply_of _ _ _ _ _ (ix2 o l) (by intro a; fin_cases a <;> simp)).trans (h26 o l)
  have hset : ∀ y : S256x6144.Idx, (y 1).val / 256 = k.val → y ∈ (Rect.unit (s := S256x6144) (k0_off9 k) ![256, 256] (k0_off9_inb k)).set := by
    intro y hy
    refine Rect.mem_set_unit.mpr ?_
    intro a
    have h0 : (y 0).val < 256 := (y 0).isLt
    fin_cases a
    · simpa [k0_off9_eq] using h0
    · simp only [k0_off9_eq]; simp; omega
  have hemb : ∀ o c : Fin 256, (Rect.unit (s := S256x6144) (k0_off9 k) ![256, 256] (k0_off9_inb k)).emb (ix2 o c)
      = ix2 o ⟨256 * k.val + c.val, by omega⟩ := by
    intro o c
    funext a; fin_cases a <;> exact Fin.ext (by simp [Rect.emb_apply, k0_off9_eq])
  refine ⟨⟨fun z => ?_, hset⟩, ⟨fun z => ?_, hset⟩⟩
  · idx_vars z
    refine (pay71_apply _ _ z0 z1).trans ?_
    refine Eq.trans ?_ (congrArg (deltaB P N) (hemb z0 z1).symm)
    exact delta_chunk P N k z0 z1 _ rfl
  · idx_vars z
    refine (pay73_apply _ _ _ _ s h26' z0 z1).trans ?_
    refine Eq.trans ?_ (congrArg (weightB x9 P N s) (hemb z0 z1).symm)
    exact congrArg₂ (· - ·) (congrArg (num · * s z0) (ld_codes x9 k z0 z1 _ rfl)) (delta_chunk P N k z0 z1 _ rfl)

/-- One trip's step of the maxima: lane `l` takes two columns of the chunk. -/
theorem trip_max (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o)
    (k : Fin k0_t3_loop.trips) (acc : FVec Ideal S256x128 .f32) (o : Fin 256) (l : Fin 128) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 k acc (ix2 o l)
      = max (acc (ix2 o l)) (max
        (FloatOps.absf (F := Ideal) (φ := .f32) (weightAt x9 P N s o ⟨256 * k.val + l.val, by have : k.val < 24 := k.isLt; omega⟩))
        (FloatOps.absf (F := Ideal) (φ := .f32) (weightAt x9 P N s o ⟨256 * k.val + (128 + l.val), by have : k.val < 24 := k.isLt; omega⟩))) := by
  unfold tripR_k0_t3 trip_k0_t3
  dsimp only
  simp only [View.readAt_eq_ld, h10, h21, h24]
  have h26' : ∀ o l, View.ld (arg26.view.read (Elt Ideal) X26) (Rect.unit ![0, 0] ![256, 128] inb_S256x128_S256x128_0_0) (ix2 o l) = s o :=
    fun o l => (View.ld_unit_apply_of _ _ _ _ _ (ix2 o l) (by intro a; fin_cases a <;> simp)).trans (h26 o l)
  refine (pay74_apply _ _ _ _ _ s h26' o l).trans ?_
  have hw : ∀ (c : Fin 256) (n : Fin 6144), n.val = 256 * k.val + c.val →
      num (View.ld x9 (Rect.unit (k0_off9 k) ![256, 256] (k0_off9_inb k)) (ix2 o c)) * s o
        - lit 0x3A83126F#32 * ∑ j : Fin 640, View.ld N (Rect.unit ![0, 0] ![256, 640] inb_S256x640_S256x640_0_0) (ix2 o j)
          * View.ld P (Rect.unit (k0_off8 k) ![1, 640, 256] (k0_off8_inb k)) (ix3 0 j c) = weightAt x9 P N s o n := fun c n hn =>
    congrArg₂ (· - ·) (congrArg (num · * s o) (ld_codes x9 k o c n hn)) (delta_chunk P N k o c n hn)
  refine congrArg₂ max rfl (congrArg₂ max (congrArg _ (hw _ _ rfl)) (congrArg _ (hw _ _ rfl)))

/-- The stores of the trips before `n`. -/
theorem delta_fills (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o)
    (init : FVec Ideal S256x128 .f32) (n : ℕ) (hn : n ≤ 24) :
    Fills (deltaB P N) (fun y => (y 1).val / 256 < n) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init n).2.1
      ∧ Fills (weightB x9 P N s) (fun y => (y 1).val / 256 < n) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init n).2.2 := by
  induction n with
  | zero => exact ⟨(Fills.nil _).mono fun y h => absurd h (Nat.not_lt_zero _), (Fills.nil _).mono fun y h => absurd h (Nat.not_lt_zero _)⟩
  | succ n ih =>
    rw [st_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init ⟨n, hn⟩]
    have ht := fun acc => trip_delta 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 ⟨n, hn⟩ acc
    have hi := ih (by omega)
    exact ⟨((ht _).1.append hi.1).mono fun y h => by simp only; omega, ((ht _).2.append hi.2).mono fun y h => by simp only; omega⟩

/-- The maxima before trip `n`, by their upper bounds. -/
theorem max_carried (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o)
    (init : FVec Ideal S256x128 .f32) (o : Fin 256) (l : Fin 128) (z : EReal) (n : ℕ) (hn : n ≤ 24) :
    (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init n).1 (ix2 o l) ≤ z ↔ init (ix2 o l) ≤ z ∧
      ∀ q : Fin 6144, q.val / 256 < n → q.val % 128 = l.val → FloatOps.absf (F := Ideal) (φ := .f32) (weightAt x9 P N s o q) ≤ z := by
  induction n with
  | zero => rw [st_k0_t3_zero]; simp
  | succ n ih =>
    rw [st_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init ⟨n, hn⟩]
    simp only
    rw [trip_max 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26, max_le_iff, max_le_iff, ih (by omega)]
    constructor
    · rintro ⟨⟨h0, h1⟩, h2, h3⟩
      refine ⟨h0, fun q hq hl => ?_⟩
      by_cases hlt : q.val / 256 < n
      · exact h1 q hlt hl
      · by_cases hh : q.val % 256 < 128
        · have : q = ⟨256 * n + l.val, by omega⟩ := Fin.ext (by simp only; omega)
          rw [this]; exact h2
        · have : q = ⟨256 * n + (128 + l.val), by omega⟩ := Fin.ext (by simp only; omega)
          rw [this]; exact h3
    · rintro ⟨h0, h1⟩
      exact ⟨⟨h0, fun q hq hl => h1 q (by omega) hl⟩, h1 _ (by simp only; omega) (by simp only; omega), h1 _ (by simp only; omega) (by simp only; omega)⟩

/-- The change of the weight after the loop. -/
theorem delta_value (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o) (init : FVec Ideal S256x128 .f32) :
    View.canon (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init k0_t3_loop.trips).2.1 = deltaB P N :=
  (delta_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 init 24 le_rfl).1.canon fun y => by have : (y 1).val < 6144 := (y 1).isLt; simp only; omega

/-- The new weight after the loop. -/
theorem weight_value (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o) (init : FVec Ideal S256x128 .f32) :
    View.canon (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init k0_t3_loop.trips).2.2 = weightB x9 P N s :=
  (delta_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 init 24 le_rfl).2.canon fun y => by have : (y 1).val < 6144 := (y 1).isLt; simp only; omega

/-- The maxima after the loop, by their upper bounds. -/
theorem max_value (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o)
    (init : FVec Ideal S256x128 .f32) (o : Fin 256) (l : Fin 128) (z : EReal) :
    (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init k0_t3_loop.trips).1 (ix2 o l) ≤ z ↔ init (ix2 o l) ≤ z ∧
      ∀ q : Fin 6144, q.val % 128 = l.val → FloatOps.absf (F := Ideal) (φ := .f32) (weightAt x9 P N s o q) ≤ z :=
  (max_carried 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 init o l z 24 le_rfl).trans
    (and_congr_right fun _ => forall_congr' fun q => by have := q.isLt; simp only [show q.val / 256 < 24 by omega, true_imp_iff])

end Cert.KernelIdeal.Step
-- ==== Proof.LoopCodes.lean ====
/-
  The fourth loop: the weight's codes, chunk by chunk.
-/
module
public import proofs.«01_k».proof.Proof.Payload
public import proofs.«01_k».proof.Proof.Gen.KernelIdeal.Loops
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole)

variable (X12 : BufTy.Contents (Elt Ideal) arg12.view.ty) (X25 : BufTy.Contents (Elt Ideal) arg25.view.ty) (X26 : BufTy.Contents (Elt Ideal) arg26.view.ty)
  (x11 : Vec Ideal S256x6144 .i8) (W : Vec Ideal S256x6144 .f32) (s : Fin 256 → EReal)

/-- The weight's codes from the new weight, the rows' inverse scales and the random bytes. -/
def codesB (x11 : Vec Ideal S256x6144 .i8) (W : Vec Ideal S256x6144 .f32) (s : Fin 256 → EReal) : S256x6144.Idx → BitVec 8 :=
  fun y => clip (Ideal.liftRound Int.floor (W y * s (y 0) + num ((x11 y).setWidth 32) * lit 0x3B800000#32))

/-- One trip writes one chunk. -/
theorem trip_codes (h12 : arg12.view.read (Elt Ideal) X12 = x11) (h25 : arg25.view.read (Elt Ideal) X25 = W)
    (h26 : ∀ o l, arg26.view.read (Elt Ideal) X26 (ix2 o l) = s o) (k : Fin k0_t4_loop.trips) :
    Fills (e := .i8) (codesB x11 W s) (fun y => (y 1).val / 256 = k.val) (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 k) := by
  unfold Fills
  unfold tripL_k0_t4 trip_k0_t4
  dsimp only
  simp only [List.mem_singleton, forall_eq, exists_eq_left]
  simp only [View.readAt_eq_ld, h12, h25]
  have hk : k.val < 24 := k.isLt
  have h26' : ∀ o l, View.ld (arg26.view.read (Elt Ideal) X26) (Rect.unit ![0, 0] ![256, 128] inb_S256x128_S256x128_0_0) (ix2 o l) = s o :=
    fun o l => (View.ld_unit_apply_of _ _ _ _ _ (ix2 o l) (by intro a; fin_cases a <;> simp)).trans (h26 o l)
  refine ⟨fun z => ?_, fun y hy => ?_⟩
  · idx_vars z
    refine (pay1_apply _ _ _ s h26' z0 z1).trans ?_
    have hemb : (Rect.unit (s := S256x6144) (k0_off10 k) ![256, 256] (k0_off10_inb k)).emb (ix2 z0 z1)
        = ix2 z0 ⟨256 * k.val + z1.val, by omega⟩ := by
      funext a; fin_cases a <;> exact Fin.ext (by simp [Rect.emb_apply, k0_off10_eq])
    refine Eq.trans ?_ (congrArg (codesB x11 W s) hemb.symm)
    have e1 : View.ld x11 (Rect.unit (k0_off10 k) ![256, 256] (k0_off10_inb k)) (ix2 z0 z1) = x11 (ix2 z0 ⟨256 * k.val + z1.val, by omega⟩) :=
      View.ld_unit_apply_of x11 _ _ _ _ _ (by intro a; fin_cases a <;> simp [k0_off10_eq])
    have e2 : View.ld W (Rect.unit (k0_off10 k) ![256, 256] (k0_off10_inb k)) (ix2 z0 z1) = W (ix2 z0 ⟨256 * k.val + z1.val, by omega⟩) :=
      View.ld_unit_apply_of W _ _ _ _ _ (by intro a; fin_cases a <;> simp [k0_off10_eq])
    unfold codesB
    rw [← e1, ← e2]
    rfl
  · refine Rect.mem_set_unit.mpr ?_
    intro a
    have h0 : (y 0).val < 256 := (y 0).isLt
    fin_cases a
    · simpa [k0_off10_eq] using h0
    · simp only [k0_off10_eq]; simp; omega

/-- The stores of the trips before `n`. -/
theorem codes_fills (h12 : arg12.view.read (Elt Ideal) X12 = x11) (h25 : arg25.view.read (Elt Ideal) X25 = W)
    (h26 : ∀ o l, arg26.view.read (Elt Ideal) X26 (ix2 o l) = s o) (n : ℕ) (hn : n ≤ 24) :
    Fills (e := .i8) (codesB x11 W s) (fun y => (y 1).val / 256 < n) (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 n) := by
  induction n with
  | zero => exact (Fills.nil _).mono fun y h => absurd h (Nat.not_lt_zero _)
  | succ n ih =>
    rw [pb_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 ⟨n, hn⟩]
    exact ((trip_codes 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 x11 W s h12 h25 h26 ⟨n, hn⟩).append (ih (by omega))).mono fun y h => by simp only; omega

/-- The codes after the loop. -/
theorem codes_value (h12 : arg12.view.read (Elt Ideal) X12 = x11) (h25 : arg25.view.read (Elt Ideal) X25 = W)
    (h26 : ∀ o l, arg26.view.read (Elt Ideal) X26 (ix2 o l) = s o) : View.canon (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 k0_t4_loop.trips) = codesB x11 W s :=
  (codes_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 x11 W s h12 h25 h26 24 le_rfl).canon fun y => by have : (y 1).val < 6144 := (y 1).isLt; simp only; omega

end Cert.KernelIdeal.Step
-- ==== Proof.StepOut.lean ====
/-
  What one block's step computes: the eight results' blocks, as functions of the blocks of the arguments and of the two
  scratch buffers; and the body's loops in those terms.
-/
module
public import proofs.«01_k».proof.Proof.BlockRead
public import proofs.«01_k».proof.Proof.LoopPrep
public import proofs.«01_k».proof.Proof.LoopLow
public import proofs.«01_k».proof.Proof.LoopDelta
public import proofs.«01_k».proof.Proof.LoopCodes
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

/-- The blocks of the twelve arguments that one step reads. -/
structure Blk where
  /-- activations, all of them -/
  x0 : Vec Ideal S256x6144 .bf16
  /-- output gradients -/
  x1 : Vec Ideal S256x256 .bf16
  /-- projector codes, all of them -/
  x2 : Vec Ideal S640x3072 .i8
  /-- projector scales -/
  x3 : Vec Ideal S24x640 .f32
  /-- projector zero points -/
  x4 : Vec Ideal S24x640 .f32
  /-- first moment's codes -/
  x5 : Vec Ideal S256x640 .i8
  /-- first moment's scales -/
  x6 : Vec Ideal S5x256 .f32
  /-- second moment's codes -/
  x7 : Vec Ideal S256x640 .i8
  /-- second moment's scales -/
  x8 : Vec Ideal S5x256 .f32
  /-- weight codes -/
  x9 : Vec Ideal S256x6144 .i8
  /-- weight scales -/
  x10 : Vec Ideal S1x256 .f32
  /-- random bytes -/
  x11 : Vec Ideal S256x6144 .i8

/-- The projected gradient, summed chunk by chunk. -/
def lowB (x1 : Vec Ideal S256x256 .bf16) (P : Vec Ideal S24x640x256 .bf16) (T : Vec Ideal S24x256x256 .bf16) : Vec Ideal S640x256 .f32 :=
  fun y => ∑ k : Fin 24, rtTerm x1 P T k (y 0) (y 1)

section
variable (B : Blk) (P : Vec Ideal S24x640x256 .bf16) (T : Vec Ideal S24x256x256 .bf16)

/-- The block of the new first moment. -/
def Blk.m : S256x640.Idx → EReal := mB (lowB B.x1 P T) B.x5 B.x6
/-- The block of the new second moment. -/
def Blk.v : S256x640.Idx → EReal := vB (lowB B.x1 P T) B.x7 B.x8
/-- The block of the direction: result 4. -/
def Blk.dir : S256x640.Idx → EReal := dirB (B.m P T) (B.v P T)
/-- The block of the change of the weight: result 3. -/
def Blk.delta : S256x6144.Idx → EReal := deltaB P (B.dir P T)
/-- The block of the new weight. -/
def Blk.weight : S256x6144.Idx → EReal := weightB B.x9 P (B.dir P T) fun o => B.x10 (ix2 0 o)
/-- The new weight's scales, a number for a row. -/
def Blk.ws (o : Fin 256) : EReal := scale (absMax fun n : Fin 6144 => B.weight P T (ix2 o n))
/-- The block of the new weight's scales: result 2. -/
def Blk.wScale : S1x256.Idx → EReal := fun y => B.ws P T (y 1)
/-- The block of the new weight's codes: result 1. -/
def Blk.wCode : S256x6144.Idx → BitVec 8 := codesB B.x11 (B.weight P T) fun o => Ideal.div 1 (B.ws P T o)
/-- The block of the first moment's codes: result 5. -/
def Blk.mCode : S256x640.Idx → BitVec 8 := codeB (B.m P T)
/-- The block of the first moment's scales, a row for a group: result 6. -/
def Blk.mScale : S5x256.Idx → EReal := scaleB (B.m P T)
/-- The block of the second moment's codes: result 7. -/
def Blk.vCode : S256x640.Idx → BitVec 8 := codeB (B.v P T)
/-- The block of the second moment's scales: result 8. -/
def Blk.vScale : S5x256.Idx → EReal := scaleB (B.v P T)
end

theorem lit_zero : lit 0x00000000#32 = 0 := by exact Ideal.ofBits_zero_f32

/-- The greatest of 128 lanes' maxima over the chunks is the greatest of the row. -/
theorem absMax_lanes (M : FVec Ideal S256x128 .f32) (W : Fin 6144 → EReal) (o : Fin 256)
    (h : ∀ (l : Fin 128) (z : EReal), M (ix2 o l) ≤ z ↔ (0 : EReal) ≤ z ∧ ∀ q : Fin 6144, q.val % 128 = l.val → FloatOps.absf (F := Ideal) (φ := .f32) (W q) ≤ z) :
    Finset.fold max (lit 0xFF800000#32) (fun l : Fin 128 => M (ix2 o l)) Finset.univ = absMax W := by
  unfold absMax
  refine eq_of_forall_ge_iff fun z => ?_
  rw [Finset.fold_max_le, Finset.fold_max_le]
  refine and_congr_right fun _ => ⟨fun hl q _ => ?_, fun hq l _ => ?_⟩
  · exact ((h ⟨q.val % 128, by omega⟩ z).mp (hl _ (Finset.mem_univ _))).2 q rfl
  · refine (h l z).mpr ⟨le_trans ?_ (hq 0 (Finset.mem_univ _)), fun q _ => hq q (Finset.mem_univ _)⟩
    show (0 : EReal) ≤ max (W 0) (-W 0)
    rcases le_total 0 (W 0) with h0 | h0
    · exact le_max_of_le_left h0
    · exact le_max_of_le_right (by simpa using EReal.neg_le_neg_iff.mpr h0)

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole)

section
variable (X2 : BufTy.Contents (Elt Ideal) arg2.view.ty) (X21 : BufTy.Contents (Elt Ideal) arg21.view.ty) (X22 : BufTy.Contents (Elt Ideal) arg22.view.ty)
  (x1 : Vec Ideal S256x256 .bf16) (P : Vec Ideal S24x640x256 .bf16) (T : Vec Ideal S24x256x256 .bf16)

theorem low_value (h2 : arg2.view.read (Elt Ideal) X2 = x1) (h21 : arg21.view.read (Elt Ideal) X21 = P) (h22 : arg22.view.read (Elt Ideal) X22 = T) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 k0_pay9 k0_t2_loop.trips = lowB x1 P T := by
  funext z
  idx_vars z
  refine (rt_value 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 x1 P T h2 h21 h22 k0_pay9 z0 z1).trans ?_
  have h0 : k0_pay9 (F := Ideal) (ix2 z0 z1) = 0 := lit_zero
  rw [h0, zero_add]
  rfl
end

section
variable (v444 : FVec Ideal S256x128 .f32) (X10 : BufTy.Contents (Elt Ideal) arg10.view.ty) (X21 : BufTy.Contents (Elt Ideal) arg21.view.ty)
  (X24 : BufTy.Contents (Elt Ideal) arg24.view.ty) (X26 : BufTy.Contents (Elt Ideal) arg26.view.ty)
  (x9 : Vec Ideal S256x6144 .i8) (P : Vec Ideal S24x640x256 .bf16) (N : Vec Ideal S256x640 .bf16) (s : Fin 256 → EReal)

/-- The row's scale, from the maxima the loop carries. -/
theorem wScale_value (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o) (o : Fin 256) :
    k0_pay75 (F := Ideal) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 k0_pay70 k0_t3_loop.trips).1 (ix2 o 0)
      = scale (absMax fun n : Fin 6144 => weightB x9 P N s (ix2 o n)) := by
  refine (pay75_apply _ o).trans (congrArg scale (absMax_lanes _ _ o fun l z => ?_))
  refine (max_value 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 k0_pay70 o l z).trans ?_
  have h0 : k0_pay70 (F := Ideal) (ix2 o l) = 0 := lit_zero
  rw [h0]
  rfl

/-- The change of the weight, read back. -/
theorem delta_read (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o) (init : FVec Ideal S256x128 .f32)
    (a : Memref sig .tc .vmem S256x6144 .f32) (f : BufTy.Contents (Elt Ideal) a.view.ty) :
    a.view.read (Elt Ideal) (a.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init k0_t3_loop.trips).2.1) = deltaB P N :=
  read_fills a f (delta_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 init 24 le_rfl).1 fun y => by have : (y 1).val < 6144 := (y 1).isLt; simp only; omega

/-- The new weight, read back. -/
theorem weight_read (h10 : arg10.view.read (Elt Ideal) X10 = x9) (h21 : arg21.view.read (Elt Ideal) X21 = P)
    (h24 : arg24.view.read (Elt Ideal) X24 = N) (h26 : ∀ o l, arg26.view.read (Elt Ideal) X26 (ix2 o l) = s o) (init : FVec Ideal S256x128 .f32)
    (a : Memref sig .tc .vmem S256x6144 .f32) (f : BufTy.Contents (Elt Ideal) a.view.ty) :
    a.view.read (Elt Ideal) (a.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 init k0_t3_loop.trips).2.2) = weightB x9 P N s :=
  read_fills a f (delta_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 X24 X26 x9 P N s h10 h21 h24 h26 init 24 le_rfl).2 fun y => by have : (y 1).val < 6144 := (y 1).isLt; simp only; omega
end

/-- The codes, read back. -/
theorem codes_read (X12 : BufTy.Contents (Elt Ideal) arg12.view.ty) (X25 : BufTy.Contents (Elt Ideal) arg25.view.ty) (X26 : BufTy.Contents (Elt Ideal) arg26.view.ty)
    (x11 : Vec Ideal S256x6144 .i8) (W : Vec Ideal S256x6144 .f32) (s : Fin 256 → EReal) (h12 : arg12.view.read (Elt Ideal) X12 = x11) (h25 : arg25.view.read (Elt Ideal) X25 = W)
    (h26 : ∀ o l, arg26.view.read (Elt Ideal) X26 (ix2 o l) = s o) (a : Memref sig .tc .vmem S256x6144 .i8) (f : BufTy.Contents (Elt Ideal) a.view.ty) :
    a.view.read (Elt Ideal) (a.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 k0_t4_loop.trips)) = codesB x11 W s :=
  read_fills a f (codes_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 X25 X26 x11 W s h12 h25 h26 24 le_rfl) fun y => by have : (y 1).val < 6144 := (y 1).isLt; simp only; omega

end Cert.KernelIdeal.Step
-- ==== Proof.StepFacts.lean ====
/-
  The results' buffers after the body of one step, whatever the two scratch buffers hold.
-/
module
public import proofs.«01_k».proof.Proof.StepOut
public import proofs.«01_k».proof.Proof.Fills
public import Idealize.ShloMosaic.Lib.Tactic
public import Idealize.ShloMosaic.Lib.Pipeline.ValueKit.Tiles
@[expose] public section
set_option maxRecDepth 16384
noncomputable section
open Idealize.ShloMosaic Idealize.SL.Sem Idealize.ShloMosaic.TcCoe
namespace Cert.KernelIdeal.Step
open Cert.KernelIdeal Cert.KernelIdeal.Gen Cert.Spec Cert.Step

variable (𝒱 : Variants) (c : Dev nD) (bd : Option 𝒱.V) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole)
variable (B : Blk) (P : Vec Ideal S24x640x256 .bf16) (T : Vec Ideal S24x256x256 .bf16)
  {X2 : BufTy.Contents (Elt Ideal) arg2.view.ty} {X6 : BufTy.Contents (Elt Ideal) arg6.view.ty} {X7 : BufTy.Contents (Elt Ideal) arg7.view.ty}
  {X8 : BufTy.Contents (Elt Ideal) arg8.view.ty} {X9 : BufTy.Contents (Elt Ideal) arg9.view.ty} {X10 : BufTy.Contents (Elt Ideal) arg10.view.ty}
  {X11 : BufTy.Contents (Elt Ideal) arg11.view.ty} {X12 : BufTy.Contents (Elt Ideal) arg12.view.ty}
  {X21 : BufTy.Contents (Elt Ideal) arg21.view.ty} {X22 : BufTy.Contents (Elt Ideal) arg22.view.ty}
  (h2 : arg2.view.read (Elt Ideal) X2 = B.x1) (h6 : arg6.view.read (Elt Ideal) X6 = B.x5) (h7 : arg7.view.read (Elt Ideal) X7 = B.x6)
  (h8 : arg8.view.read (Elt Ideal) X8 = B.x7) (h9 : arg9.view.read (Elt Ideal) X9 = B.x8) (h10 : arg10.view.read (Elt Ideal) X10 = B.x9)
  (h11 : arg11.view.read (Elt Ideal) X11 = B.x10) (h12 : arg12.view.read (Elt Ideal) X12 = B.x11)
  (h21 : arg21.view.read (Elt Ideal) X21 = P) (h22 : arg22.view.read (Elt Ideal) X22 = T)

/-- The projected gradient as the body has it: the second loop's carried value. -/
def lowC (X2 : BufTy.Contents (Elt Ideal) arg2.view.ty) (X21 : BufTy.Contents (Elt Ideal) arg21.view.ty) (X22 : BufTy.Contents (Elt Ideal) arg22.view.ty) : Vec Ideal S640x256 .f32 :=
  st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 k0_pay9 k0_t2_loop.trips

/-- The stores of the rows' old scales. -/
def oldL (arg11 : Memref sig .tc .vmem S1x256 .f32) (X11 : BufTy.Contents (Elt Ideal) arg11.view.ty) : List (View.Piece (Elt Ideal) S256x128 .f32) :=
  [⟨Rect.unit ![0, 0] S256x128.size inb_S256x128_S256x128_0_0,
    k0_pay69 (F := Ideal) (View.readAt (Elt Ideal) arg11.view (Rect.unit ![0, 0] S1x256.size inb_S1x256_S1x256_0_0).toLoadRect X11)⟩]

/-- The third loop's carried value and stores, as the body has them. -/
def thirdC (v444 : FVec Ideal S256x128 .f32) (X2 : BufTy.Contents (Elt Ideal) arg2.view.ty) (X6 : BufTy.Contents (Elt Ideal) arg6.view.ty) (X7 : BufTy.Contents (Elt Ideal) arg7.view.ty)
    (X8 : BufTy.Contents (Elt Ideal) arg8.view.ty) (X9 : BufTy.Contents (Elt Ideal) arg9.view.ty) (X10 : BufTy.Contents (Elt Ideal) arg10.view.ty)
    (X11 : BufTy.Contents (Elt Ideal) arg11.view.ty) (X21 : BufTy.Contents (Elt Ideal) arg21.view.ty) (X22 : BufTy.Contents (Elt Ideal) arg22.view.ty) :=
  st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21
    (arg24.view.writes (Elt Ideal) arg24.view.junk (lowL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg6 arg7 X6 X7 arg8 arg9 X8 X9))
    (arg26.view.writes (Elt Ideal) arg26.view.junk (oldL arg11 X11)) k0_pay70 k0_t3_loop.trips

section
include h2 h21 h22
theorem lowC_eq : lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 = lowB B.x1 P T := low_value 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22 B.x1 P T h2 h21 h22
end

section
include h2 h6 h7 h8 h9 h21 h22
/-- Result 4. -/
theorem step_dir (a : Memref sig .tc .vmem S256x640 .f32) (f : BufTy.Contents (Elt Ideal) a.view.ty) :
    a.view.read (Elt Ideal) (a.view.writes (Elt Ideal) f (dirL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg6 arg7 X6 X7 arg8 arg9 X8 X9)) = B.dir P T := by
  rw [read_dir _ arg6 arg7 X6 X7 arg8 arg9 X8 X9 B.x5 B.x7 B.x6 B.x8 a f h6 h7 h8 h9, lowC_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h21 h22]
  rfl

theorem step_low (a : Memref sig .tc .vmem S256x640 .bf16) (f : BufTy.Contents (Elt Ideal) a.view.ty) :
    a.view.read (Elt Ideal) (a.view.writes (Elt Ideal) f (lowL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg6 arg7 X6 X7 arg8 arg9 X8 X9)) = B.dir P T := by
  rw [read_low _ arg6 arg7 X6 X7 arg8 arg9 X8 X9 B.x5 B.x7 B.x6 B.x8 a f h6 h7 h8 h9, lowC_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h21 h22]
  rfl
end

section
include h2 h6 h7 h21 h22
/-- Result 5. -/
theorem step_mCode (a : Memref sig .tc .vmem S256x640 .i8) (f : BufTy.Contents (Elt Ideal) a.view.ty) :
    a.view.read (Elt Ideal) (a.view.writes (Elt Ideal) f (mCodeL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg6 arg7 X6 X7)) = B.mCode P T := by
  rw [read_mCode _ arg6 arg7 X6 X7 B.x5 B.x6 a f h6 h7, lowC_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h21 h22]
  rfl

/-- Result 6. -/
theorem step_mScale (a : Memref sig .tc .vmem S5x256 .f32) (f : BufTy.Contents (Elt Ideal) a.view.ty) :
    a.view.read (Elt Ideal) (a.view.writes (Elt Ideal) f (mScaleL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg6 arg7 X6 X7)) = B.mScale P T := by
  rw [read_mScale _ arg6 arg7 X6 X7 B.x5 B.x6 a f h6 h7, lowC_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h21 h22]
  rfl
end

section
include h2 h8 h9 h21 h22
/-- Result 7. -/
theorem step_vCode (a : Memref sig .tc .vmem S256x640 .i8) (f : BufTy.Contents (Elt Ideal) a.view.ty) :
    a.view.read (Elt Ideal) (a.view.writes (Elt Ideal) f (vCodeL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg8 arg9 X8 X9)) = B.vCode P T := by
  rw [read_vCode _ arg8 arg9 X8 X9 B.x7 B.x8 a f h8 h9, lowC_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h21 h22]
  rfl

/-- Result 8. -/
theorem step_vScale (a : Memref sig .tc .vmem S5x256 .f32) (f : BufTy.Contents (Elt Ideal) a.view.ty) :
    a.view.read (Elt Ideal) (a.view.writes (Elt Ideal) f (vScaleL (lowC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X2 X21 X22) arg8 arg9 X8 X9)) = B.vScale P T := by
  rw [read_vScale _ arg8 arg9 X8 X9 B.x7 B.x8 a f h8 h9, lowC_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h21 h22]
  rfl
end

section
include h11
theorem step_old (o : Fin 256) (l : Fin 128) :
    arg26.view.read (Elt Ideal) (arg26.view.writes (Elt Ideal) arg26.view.junk (oldL arg11 X11)) (ix2 o l) = B.x10 (ix2 0 o) := by
  unfold oldL
  rw [read_whole arg26 _ (by funext k; fin_cases k <;> rfl) _ _ [], pay69_apply, View.readAt_eq_ld, h11]
  exact View.ld_unit_apply_of B.x10 _ _ _ _ _ (by intro a; fin_cases a <;> simp)
end

variable (v444 : FVec Ideal S256x128 .f32)

section
include h2 h6 h7 h8 h9 h10 h11 h21 h22
theorem step_scale (o : Fin 256) :
    k0_pay75 (F := Ideal) (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).1 (ix2 o 0) = B.ws P T o :=
  wScale_value 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 _ _ B.x9 P (B.dir P T) (fun o => B.x10 (ix2 0 o)) h10 h21
    (step_low 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h21 h22 arg24 _) (step_old arg11 arg26 B h11) o

/-- Result 2. -/
theorem step_wScale (a : Memref sig .tc .vmem S1x256 .f32) (f : BufTy.Contents (Elt Ideal) a.view.ty) :
    a.view.read (Elt Ideal) (a.view.writes (Elt Ideal) f [⟨Rect.unit ![0, 0] S1x256.size inb_S1x256_S1x256_0_0,
      k0_pay76 (F := Ideal) (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).1⟩]) = B.wScale P T := by
  rw [read_whole a f (by funext k; fin_cases k <;> rfl) _ _ []]
  funext z; idx_vars z
  obtain rfl : z0 = 0 := Subsingleton.elim _ _
  exact (pay76_apply _ z1).trans (step_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h10 h11 h21 h22 v444 z1)

/-- Result 3. -/
theorem step_delta (a : Memref sig .tc .vmem S256x6144 .f32) (f : BufTy.Contents (Elt Ideal) a.view.ty) :
    a.view.read (Elt Ideal) (a.view.writes (Elt Ideal) f (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).2.1) = B.delta P T :=
  delta_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 _ _ B.x9 P (B.dir P T) (fun o => B.x10 (ix2 0 o)) h10 h21
    (step_low 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h21 h22 arg24 _) (step_old arg11 arg26 B h11) _ a f

theorem step_weight (f : BufTy.Contents (Elt Ideal) arg25.view.ty) :
    arg25.view.read (Elt Ideal) (arg25.view.writes (Elt Ideal) f (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).2.2) = B.weight P T :=
  weight_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X10 X21 _ _ B.x9 P (B.dir P T) (fun o => B.x10 (ix2 0 o)) h10 h21
    (step_low 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h21 h22 arg24 _) (step_old arg11 arg26 B h11) _ arg25 f

theorem step_inverse (o : Fin 256) (l : Fin 128) :
    arg26.view.read (Elt Ideal) (arg26.view.writes (Elt Ideal) arg26.view.junk (⟨Rect.unit ![0, 0] S256x128.size inb_S256x128_S256x128_0_0,
      k0_pay77 (F := Ideal) (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).1⟩ :: oldL arg11 X11)) (ix2 o l) = Ideal.div 1 (B.ws P T o) := by
  rw [read_whole arg26 _ (by funext k; fin_cases k <;> rfl) _ _ _]
  exact (pay77_apply _ o l).trans (congrArg (Ideal.div 1) (step_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h10 h11 h21 h22 v444 o))

include h12
/-- Result 1. -/
theorem step_wCode (f25 : BufTy.Contents (Elt Ideal) arg25.view.ty) (a : Memref sig .tc .vmem S256x6144 .i8) (f : BufTy.Contents (Elt Ideal) a.view.ty) :
    a.view.read (Elt Ideal) (a.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12
      (arg25.view.writes (Elt Ideal) f25 (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).2.2)
      (arg26.view.writes (Elt Ideal) arg26.view.junk (⟨Rect.unit ![0, 0] S256x128.size inb_S256x128_S256x128_0_0,
        k0_pay77 (F := Ideal) (thirdC 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v444 X2 X6 X7 X8 X9 X10 X11 X21 X22).1⟩ :: oldL arg11 X11)) k0_t4_loop.trips)) = B.wCode P T :=
  codes_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X12 _ _ B.x11 _ _ h12 (step_weight 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h10 h11 h21 h22 v444 f25)
    (step_inverse 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P T h2 h6 h7 h8 h9 h10 h11 h21 h22 v444) a f
end

section
variable (k0_h1 : k0_cond1 i = 1#1) {X1 : BufTy.Contents (Elt Ideal) arg1.view.ty} {X3 : BufTy.Contents (Elt Ideal) arg3.view.ty}
  {X4 : BufTy.Contents (Elt Ideal) arg4.view.ty} {X5 : BufTy.Contents (Elt Ideal) arg5.view.ty}
  (h1 : arg1.view.read (Elt Ideal) X1 = B.x0) (h3 : arg3.view.read (Elt Ideal) X3 = B.x2)
  (h4 : arg4.view.read (Elt Ideal) X4 = B.x3) (h5 : arg5.view.read (Elt Ideal) X5 = B.x4)
include h1 h3 h4 h5

/-- The projector's scratch buffer after the first loop, read back. -/
theorem step_proj (f : BufTy.Contents (Elt Ideal) arg21.view.ty) :
    arg21.view.read (Elt Ideal) (arg21.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 k0_t1_loop.trips).1) = projB B.x2 B.x3 B.x4 :=
  read_fills arg21 f (prep_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 B.x0 B.x2 B.x3 B.x4 h1 h3 h4 h5 24 le_rfl).1 fun y => (y 0).isLt

/-- The activations' scratch buffer after the first loop, read back. -/
theorem step_act (f : BufTy.Contents (Elt Ideal) arg22.view.ty) :
    arg22.view.read (Elt Ideal) (arg22.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 k0_t1_loop.trips).2) = actB B.x0 :=
  read_fills arg22 f (prep_fills 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 X1 X3 X4 X5 B.x0 B.x2 B.x3 B.x4 h1 h3 h4 h5 24 le_rfl).2 fun y => (y 0).isLt
end

end Cert.KernelIdeal.Step
-- ==== Proof.RunA.lean ====
/-
  The body at the first block of rows: it fills the two scratch buffers, then computes the block's results from them.
-/
module

public import proofs.«01_k».proof.Proof.Gen.KernelIdeal.Frame.Runs
public import proofs.«01_k».proof.Proof.StepFacts

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Cert.Step

local notation "𝕄" => MT nD τ sig Unit (Elt Ideal) ℕ (UR sig nD τ) ℕ

set_option maxHeartbeats 4000000 in
/-- One step: from the blocks of the arguments to the blocks of the results. -/
theorem step_A (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : cond0_0 i)
    (x0 : Vec Ideal S256x6144 .bf16) (x1 : Vec Ideal S256x256 .bf16) (x2 : Vec Ideal S640x3072 .i8) (x3 : Vec Ideal S24x640 .f32) (x4 : Vec Ideal S24x640 .f32) (x5 : Vec Ideal S256x640 .i8) (x6 : Vec Ideal S5x256 .f32) (x7 : Vec Ideal S256x640 .i8) (x8 : Vec Ideal S5x256 .f32) (x9 : Vec Ideal S256x6144 .i8) (x10 : Vec Ideal S1x256 .f32) (x11 : Vec Ideal S256x6144 .i8)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (Blk.wCode ⟨x0, x1, x2, x3, x4, x5, x6, x7, x8, x9, x10, x11⟩ (projB x2 x3 x4) (actB x0)) ∗ owns (c : Thread nD τ) arg14 fullShare (Blk.wScale ⟨x0, x1, x2, x3, x4, x5, x6, x7, x8, x9, x10, x11⟩ (projB x2 x3 x4) (actB x0)) ∗ owns (c : Thread nD τ) arg15 fullShare (Blk.delta ⟨x0, x1, x2, x3, x4, x5, x6, x7, x8, x9, x10, x11⟩ (projB x2 x3 x4) (actB x0)) ∗ owns (c : Thread nD τ) arg16 fullShare (Blk.dir ⟨x0, x1, x2, x3, x4, x5, x6, x7, x8, x9, x10, x11⟩ (projB x2 x3 x4) (actB x0)) ∗ owns (c : Thread nD τ) arg17 fullShare (Blk.mCode ⟨x0, x1, x2, x3, x4, x5, x6, x7, x8, x9, x10, x11⟩ (projB x2 x3 x4) (actB x0)) ∗ owns (c : Thread nD τ) arg18 fullShare (Blk.mScale ⟨x0, x1, x2, x3, x4, x5, x6, x7, x8, x9, x10, x11⟩ (projB x2 x3 x4) (actB x0)) ∗ owns (c : Thread nD τ) arg19 fullShare (Blk.vCode ⟨x0, x1, x2, x3, x4, x5, x6, x7, x8, x9, x10, x11⟩ (projB x2 x3 x4) (actB x0)) ∗ owns (c : Thread nD τ) arg20 fullShare (Blk.vScale ⟨x0, x1, x2, x3, x4, x5, x6, x7, x8, x9, x10, x11⟩ (projB x2 x3 x4) (actB x0)) ∗ owns (c : Thread nD τ) arg21 fullShare (projB x2 x3 x4) ∗ owns (c : Thread nD τ) arg22 fullShare (actB x0) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := Ideal)) Variants.none c none) E (cc0_qgalore_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_qgalore_step_eq_skeleton]; unfold cc0_qgalore_step_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro; exact step_wCode Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg6.read_unread _) (harg7.read_unread _) (harg8.read_unread _) (harg9.read_unread _) (harg10.read_unread _) (harg11.read_unread _) (harg12.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) _ _ arg13 _
  isplitl [H13]
  · iexists _; isplitr; swap; · iexact H13
    ipureintro; exact step_wScale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg6.read_unread _) (harg7.read_unread _) (harg8.read_unread _) (harg9.read_unread _) (harg10.read_unread _) (harg11.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) _ arg14 _
  isplitl [H14]
  · iexists _; isplitr; swap; · iexact H14
    ipureintro; exact step_delta Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg6.read_unread _) (harg7.read_unread _) (harg8.read_unread _) (harg9.read_unread _) (harg10.read_unread _) (harg11.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) _ arg15 _
  isplitl [H15]
  · iexists _; isplitr; swap; · iexact H15
    ipureintro; exact step_dir Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg6.read_unread _) (harg7.read_unread _) (harg8.read_unread _) (harg9.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) arg16 _
  isplitl [H16]
  · iexists _; isplitr; swap; · iexact H16
    ipureintro; exact step_mCode Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg6.read_unread _) (harg7.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) arg17 _
  isplitl [H17]
  · iexists _; isplitr; swap; · iexact H17
    ipureintro; exact step_mScale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg6.read_unread _) (harg7.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) arg18 _
  isplitl [H18]
  · iexists _; isplitr; swap; · iexact H18
    ipureintro; exact step_vCode Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg8.read_unread _) (harg9.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) arg19 _
  isplitl [H19]
  · iexists _; isplitr; swap; · iexact H19
    ipureintro; exact step_vScale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ (projB x2 x3 x4) (actB x0) (harg2.read_unread _) (harg8.read_unread _) (harg9.read_unread _) (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _) arg20 _
  isplitl [HS0]
  · iexists _; isplitr; swap; · iexact HS0
    ipureintro; exact (step_proj Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _)
  isplitl [HS1]
  · iexists _; isplitr; swap; · iexact HS1
    ipureintro; exact (step_act Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ hc0 (harg1.read_unread _) (harg3.read_unread _) (harg4.read_unread _) (harg5.read_unread _) _)
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.KernelIdeal.Step

end
-- ==== Proof.RunB.lean ====
/-
  The body at a later block of rows: it keeps the two scratch buffers and computes the block's results from them.
-/
module

public import proofs.«01_k».proof.Proof.Gen.KernelIdeal.Frame.Runs
public import proofs.«01_k».proof.Proof.StepFacts

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Cert.Step

local notation "𝕄" => MT nD τ sig Unit (Elt Ideal) ℕ (UR sig nD τ) ℕ

set_option maxHeartbeats 4000000 in
/-- One step: from the blocks of the arguments to the blocks of the results. -/
theorem step_B (c : Dev nD) (i : grid0.Coords) (arg1 : Memref sig .tc .vmem S256x6144 .bf16) (harg1 : arg1.IsWhole) (arg2 : Memref sig .tc .vmem S256x256 .bf16) (harg2 : arg2.IsWhole) (arg3 : Memref sig .tc .vmem S640x3072 .i8) (harg3 : arg3.IsWhole) (arg4 : Memref sig .tc .vmem S24x640 .f32) (harg4 : arg4.IsWhole) (arg5 : Memref sig .tc .vmem S24x640 .f32) (harg5 : arg5.IsWhole) (arg6 : Memref sig .tc .vmem S256x640 .i8) (harg6 : arg6.IsWhole) (arg7 : Memref sig .tc .vmem S5x256 .f32) (harg7 : arg7.IsWhole) (arg8 : Memref sig .tc .vmem S256x640 .i8) (harg8 : arg8.IsWhole) (arg9 : Memref sig .tc .vmem S5x256 .f32) (harg9 : arg9.IsWhole) (arg10 : Memref sig .tc .vmem S256x6144 .i8) (harg10 : arg10.IsWhole) (arg11 : Memref sig .tc .vmem S1x256 .f32) (harg11 : arg11.IsWhole) (arg12 : Memref sig .tc .vmem S256x6144 .i8) (harg12 : arg12.IsWhole) (arg13 : Memref sig .tc .vmem S256x6144 .i8) (harg13 : arg13.IsWhole) (arg14 : Memref sig .tc .vmem S1x256 .f32) (harg14 : arg14.IsWhole) (arg15 : Memref sig .tc .vmem S256x6144 .f32) (harg15 : arg15.IsWhole) (arg16 : Memref sig .tc .vmem S256x640 .f32) (harg16 : arg16.IsWhole) (arg17 : Memref sig .tc .vmem S256x640 .i8) (harg17 : arg17.IsWhole) (arg18 : Memref sig .tc .vmem S5x256 .f32) (harg18 : arg18.IsWhole) (arg19 : Memref sig .tc .vmem S256x640 .i8) (harg19 : arg19.IsWhole) (arg20 : Memref sig .tc .vmem S5x256 .f32) (harg20 : arg20.IsWhole) (arg21 : Memref sig .tc .vmem S24x640x256 .bf16) (harg21 : arg21.IsWhole) (arg22 : Memref sig .tc .vmem S24x256x256 .bf16) (harg22 : arg22.IsWhole) (arg23 : Memref sig .tc .vmem S8x128 .bf16) (harg23 : arg23.IsWhole) (arg24 : Memref sig .tc .vmem S256x640 .bf16) (harg24 : arg24.IsWhole) (arg25 : Memref sig .tc .vmem S256x6144 .f32) (harg25 : arg25.IsWhole) (arg26 : Memref sig .tc .vmem S256x128 .f32) (harg26 : arg26.IsWhole) (hc0 : ¬cond0_0 i)
    (x0 : Vec Ideal S256x6144 .bf16) (x1 : Vec Ideal S256x256 .bf16) (x2 : Vec Ideal S640x3072 .i8) (x3 : Vec Ideal S24x640 .f32) (x4 : Vec Ideal S24x640 .f32) (x5 : Vec Ideal S256x640 .i8) (x6 : Vec Ideal S5x256 .f32) (x7 : Vec Ideal S256x640 .i8) (x8 : Vec Ideal S5x256 .f32) (x9 : Vec Ideal S256x6144 .i8) (x10 : Vec Ideal S1x256 .f32) (x11 : Vec Ideal S256x6144 .i8) (xs0 : Vec Ideal S24x640x256 .bf16) (xs1 : Vec Ideal S24x256x256 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (Blk.wCode ⟨x0, x1, x2, x3, x4, x5, x6, x7, x8, x9, x10, x11⟩ xs0 xs1) ∗ owns (c : Thread nD τ) arg14 fullShare (Blk.wScale ⟨x0, x1, x2, x3, x4, x5, x6, x7, x8, x9, x10, x11⟩ xs0 xs1) ∗ owns (c : Thread nD τ) arg15 fullShare (Blk.delta ⟨x0, x1, x2, x3, x4, x5, x6, x7, x8, x9, x10, x11⟩ xs0 xs1) ∗ owns (c : Thread nD τ) arg16 fullShare (Blk.dir ⟨x0, x1, x2, x3, x4, x5, x6, x7, x8, x9, x10, x11⟩ xs0 xs1) ∗ owns (c : Thread nD τ) arg17 fullShare (Blk.mCode ⟨x0, x1, x2, x3, x4, x5, x6, x7, x8, x9, x10, x11⟩ xs0 xs1) ∗ owns (c : Thread nD τ) arg18 fullShare (Blk.mScale ⟨x0, x1, x2, x3, x4, x5, x6, x7, x8, x9, x10, x11⟩ xs0 xs1) ∗ owns (c : Thread nD τ) arg19 fullShare (Blk.vCode ⟨x0, x1, x2, x3, x4, x5, x6, x7, x8, x9, x10, x11⟩ xs0 xs1) ∗ owns (c : Thread nD τ) arg20 fullShare (Blk.vScale ⟨x0, x1, x2, x3, x4, x5, x6, x7, x8, x9, x10, x11⟩ xs0 xs1) ∗ owns (c : Thread nD τ) arg21 fullShare xs0 ∗ owns (c : Thread nD τ) arg22 fullShare xs1 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := Ideal)) Variants.none c none) E (cc0_qgalore_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_qgalore_step_eq_skeleton]; unfold cc0_qgalore_step_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg21.eq_unread hfs0; obtain rfl := harg22.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro; exact step_wCode Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg6.read_unread _) (harg7.read_unread _) (harg8.read_unread _) (harg9.read_unread _) (harg10.read_unread _) (harg11.read_unread _) (harg12.read_unread _) (harg21.read_unread _) (harg22.read_unread _) _ _ arg13 _
  isplitl [H13]
  · iexists _; isplitr; swap; · iexact H13
    ipureintro; exact step_wScale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg6.read_unread _) (harg7.read_unread _) (harg8.read_unread _) (harg9.read_unread _) (harg10.read_unread _) (harg11.read_unread _) (harg21.read_unread _) (harg22.read_unread _) _ arg14 _
  isplitl [H14]
  · iexists _; isplitr; swap; · iexact H14
    ipureintro; exact step_delta Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg6.read_unread _) (harg7.read_unread _) (harg8.read_unread _) (harg9.read_unread _) (harg10.read_unread _) (harg11.read_unread _) (harg21.read_unread _) (harg22.read_unread _) _ arg15 _
  isplitl [H15]
  · iexists _; isplitr; swap; · iexact H15
    ipureintro; exact step_dir Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg6.read_unread _) (harg7.read_unread _) (harg8.read_unread _) (harg9.read_unread _) (harg21.read_unread _) (harg22.read_unread _) arg16 _
  isplitl [H16]
  · iexists _; isplitr; swap; · iexact H16
    ipureintro; exact step_mCode Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg6.read_unread _) (harg7.read_unread _) (harg21.read_unread _) (harg22.read_unread _) arg17 _
  isplitl [H17]
  · iexists _; isplitr; swap; · iexact H17
    ipureintro; exact step_mScale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg6.read_unread _) (harg7.read_unread _) (harg21.read_unread _) (harg22.read_unread _) arg18 _
  isplitl [H18]
  · iexists _; isplitr; swap; · iexact H18
    ipureintro; exact step_vCode Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg8.read_unread _) (harg9.read_unread _) (harg21.read_unread _) (harg22.read_unread _) arg19 _
  isplitl [H19]
  · iexists _; isplitr; swap; · iexact H19
    ipureintro; exact step_vScale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ⟨x0, x1, x2, x3, x4, x5, x6, x7, x8, x9, x10, x11⟩ xs0 xs1 (harg2.read_unread _) (harg8.read_unread _) (harg9.read_unread _) (harg21.read_unread _) (harg22.read_unread _) arg20 _
  isplitl [HS0]
  · iexists _; isplitr; · ipureintro; exact harg21.read_unread _
    iexact HS0
  isplitl [HS1]
  · iexists _; isplitr; · ipureintro; exact harg22.read_unread _
    iexact HS1
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.KernelIdeal.Step

end
-- ==== Proof.Region.lean ====
/-
  The grid's run: what each step finds in the blocks and in the two scratch buffers, the invariant between the steps, and
  the frame.
-/
module
public import proofs.«01_k».proof.Proof.RunA
public import proofs.«01_k».proof.Proof.RunB
public import Idealize.ShloMosaic.Lib.Claim
@[expose] public section
set_option maxRecDepth 16384
noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Cert.Step

local notation "𝕄" => MT nD τ sig Unit (Elt Ideal) ℕ (UR sig nD τ) ℕ

variable (m : (ℓ : Loc nD τ sig) → Buf (Elt Ideal) ℓ) (ρ : Dev nD → PrngReg)

/-- The blocks of the arguments at point `t`. -/
def blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- The first point. -/
def first : Fin cfg0.N := ⟨0, by rw [show cfg0.N = 64 from N_0]; omega⟩

/-- What the projector's scratch buffer holds from the first point on. -/
def proj0 (c : Dev nD) : Vec Ideal S24x640x256 .bf16 := projB (blk m c first).x2 (blk m c first).x3 (blk m c first).x4

/-- What the activations' scratch buffer holds from the first point on. -/
def act0 (c : Dev nD) : Vec Ideal S24x256x256 .bf16 := actB (blk m c first).x0

/-- The invariant before position `n`: at first the two scratch buffers hold anything, afterwards what the first point left. -/
def PhiS (c : Dev nD) : (n : ℕ) → sProp 𝕄
  | 0 => Pipeline.ΦA spec0 c
  | _ + 1 => iprop(iprop(owns (c : Thread nD τ) scM0_0 fullShare (proj0 m c) ∗ owns (c : Thread nD τ) scM0_1 fullShare (act0 m c)
      ∗ (∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (proj0 m c) ∗ owns (c : Thread nD τ) scM0_1 fullShare (act0 m c)
      ∗ (∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)) ∗ (∃ r, prngReg c r)) := rfl

theorem PhiS_pos (c : Dev nD) (n : ℕ) (hz : n ≠ 0) :
    PhiS m c n = iprop(iprop(owns (c : Thread nD τ) scM0_0 fullShare (proj0 m c) ∗ owns (c : Thread nD τ) scM0_1 fullShare (act0 m c)
      ∗ (∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The proof data: each input's buffer holds its block, each result's what the step computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (blk m c t).wCode (proj0 m c) (act0 m c)
    | ⟨13, _⟩ => (blk m c t).wScale (proj0 m c) (act0 m c)
    | ⟨14, _⟩ => (blk m c t).delta (proj0 m c) (act0 m c)
    | ⟨15, _⟩ => (blk m c t).dir (proj0 m c) (act0 m c)
    | ⟨16, _⟩ => (blk m c t).mCode (proj0 m c) (act0 m c)
    | ⟨17, _⟩ => (blk m c t).mScale (proj0 m c) (act0 m c)
    | ⟨18, _⟩ => (blk m c t).vCode (proj0 m c) (act0 m c)
    | ⟨19, _⟩ => (blk m c t).vScale (proj0 m c) (act0 m c)
    | ⟨_ + 20, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (blk m c t).wCode (proj0 m c) (act0 m c) := by dsimp only [dats]
theorem after0_13 (c : Dev nD) (t : Fin cfg0.N) : (dats m 0 c).after 13 t = (blk m c t).wScale (proj0 m c) (act0 m c) := by dsimp only [dats]
theorem after0_14 (c : Dev nD) (t : Fin cfg0.N) : (dats m 0 c).after 14 t = (blk m c t).delta (proj0 m c) (act0 m c) := by dsimp only [dats]
theorem after0_15 (c : Dev nD) (t : Fin cfg0.N) : (dats m 0 c).after 15 t = (blk m c t).dir (proj0 m c) (act0 m c) := by dsimp only [dats]
theorem after0_16 (c : Dev nD) (t : Fin cfg0.N) : (dats m 0 c).after 16 t = (blk m c t).mCode (proj0 m c) (act0 m c) := by dsimp only [dats]
theorem after0_17 (c : Dev nD) (t : Fin cfg0.N) : (dats m 0 c).after 17 t = (blk m c t).mScale (proj0 m c) (act0 m c) := by dsimp only [dats]
theorem after0_18 (c : Dev nD) (t : Fin cfg0.N) : (dats m 0 c).after 18 t = (blk m c t).vCode (proj0 m c) (act0 m c) := by dsimp only [dats]
theorem after0_19 (c : Dev nD) (t : Fin cfg0.N) : (dats m 0 c).after 19 t = (blk m c t).vScale (proj0 m c) (act0 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 19200000 in
set_option maxHeartbeats 19200000 in
/-- The body at any point: at the first it fills the scratch buffers, later it finds them filled. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) from rfl, PhiS_succ]
  have hN : t.val < 64 := lt_of_lt_of_eq t.isLt (show cfg0.N = 64 from N_0)
  by_cases hz : t.val = 0
  · have ht : t = first := Fin.ext hz
    subst ht
    have h0 : (first : Fin cfg0.N).val % 64 = 0 := rfl
    · rw [PhiS_castSucc m c first, PhiS_zero m c first.val hz, PhiA0_eq]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply (step_A c (grid0.coords first) _ _ _ _ _ _ _ _ _ _ _ _ _ _ _ _ _ _ _ _ _ _ _ _ _ _ _ _ _ _ _ _ _ _ _ _ _ _ _ _ _ _ _ _ _ _ _ _ _ _ _ _ ((hcond0_0 first).mpr h0) (iblk m c 0 first) (iblk m c 1 first) (iblk m c 2 first) (iblk m c 3 first) (iblk m c 4 first) (iblk m c 5 first) (iblk m c 6 first) (iblk m c 7 first) (iblk m c 8 first) (iblk m c 9 first) (iblk m c 10 first) (iblk m c 11 first) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
  · have h0 : ¬ t.val % 64 = 0 := by omega
    · rw [PhiS_castSucc m c t, PhiS_pos m c _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply (step_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- The run, and every semaphore counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: at the end every array of the pipeline holds what the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the arguments end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Step

end
-- ==== Proof.Words.lean ====
/-
  Facts about the words and literals that the kernel and the reference write differently.
-/
module
public import proofs.«01_k».proof.Proof.Spec
public import Idealize.ShloMosaic.Lib.IdealHost
@[expose] public section
noncomputable section
open Idealize.ShloMosaic

namespace Cert.Spec

theorem lit_127 : lit 0x42FE0000#32 = ((127 : ℝ) : EReal) := by
  simp [lit, Ideal.ofBits, Ideal.ieee, -EReal.coe_mul]
  norm_num

theorem lit_neg127 : lit 0xC2FE0000#32 = ((-127 : ℝ) : EReal) := by
  simp [lit, Ideal.ofBits, Ideal.ieee, -EReal.coe_mul, -EReal.coe_neg]
  norm_num

/-- A signed byte read after it is widened is the byte read. -/
theorem num_signExtend (b : BitVec 8) : num (b.signExtend 32) = num b := by
  show (((b.signExtend 32).toInt : ℝ) : EReal) = ((b.toInt : ℝ) : EReal)
  rw [BitVec.toInt_signExtend_of_le (by decide)]

/-- A value clipped to ±127 goes to the same byte by way of a word of 32 bits. -/
theorem clip_wide (x : EReal) :
    (FloatOps.fptosi (F := Ideal) (φ := .f32) 32 (min (lit 0x42FE0000#32) (max (lit 0xC2FE0000#32) x))).setWidth 8 = clip x := by
  obtain ⟨r, hr, h1, h2⟩ : ∃ r : ℝ, min (lit 0x42FE0000#32) (max (lit 0xC2FE0000#32) x) = (r : EReal) ∧ -127 ≤ r ∧ r ≤ 127 := by
    rw [lit_127, lit_neg127]
    induction x with
    | bot => exact ⟨-127, by rw [max_eq_left bot_le]; exact min_eq_right (EReal.coe_le_coe_iff.2 (by norm_num)), by norm_num, by norm_num⟩
    | top => exact ⟨127, by rw [max_eq_right le_top, min_eq_left le_top], by norm_num, by norm_num⟩
    | coe r =>
      refine ⟨min 127 (max (-127) r), by norm_cast, by simp, by simp⟩
  unfold clip
  rw [hr]
  show (BitVec.ofInt 32 (max _ (min _ (if 0 ≤ r then ⌊r⌋ else ⌈r⌉)))).setWidth 8 = BitVec.ofInt 8 (max _ (min _ (if 0 ≤ r then ⌊r⌋ else ⌈r⌉)))
  have a1 : -127 ≤ (if 0 ≤ r then ⌊r⌋ else ⌈r⌉) := by
    split_ifs
    · exact Int.le_floor.2 (by push_cast; exact h1)
    · exact_mod_cast h1.trans (Int.le_ceil r)
  have a2 : (if 0 ≤ r then ⌊r⌋ else ⌈r⌉) ≤ 127 := by
    split_ifs
    · exact_mod_cast (Int.floor_le r).trans h2
    · exact Int.ceil_le.2 (by push_cast; exact h2)
  generalize (if 0 ≤ r then ⌊r⌋ else ⌈r⌉) = k at a1 a2 ⊢
  have e : ∀ lo hi : ℤ, lo ≤ -127 → 127 ≤ hi → max lo (min hi k) = k := by
    intro lo hi h h'
    rw [min_eq_right (by omega), max_eq_right (by omega)]
  rw [e _ _ (by norm_num) (by norm_num), e _ _ (by norm_num) (by norm_num)]
  have : -127 ≤ k ∧ k ≤ 127 := ⟨a1, a2⟩
  apply BitVec.eq_of_toNat_eq
  simp only [BitVec.toNat_setWidth, BitVec.toNat_ofInt]
  omega

/-- A scale is never zero. -/
theorem scale_ne_zero (a : EReal) : scale a ≠ 0 := by
  unfold scale
  split_ifs with h
  · exact one_ne_zero
  · unfold Ideal.div
    rw [lit_127]
    have h127 : ((127 : ℝ) : EReal) ≠ 0 := by norm_num
    rw [if_neg h127]
    have : ((127 : ℝ) : EReal)⁻¹ ≠ 0 := by
      rw [← EReal.coe_inv]
      exact_mod_cast (by norm_num : ((127 : ℝ)⁻¹) ≠ 0)
    exact mul_ne_zero h this

/-- Multiplying by a scale's inverse is dividing by the scale. -/
theorem mul_inverse (x a : EReal) : x * Ideal.div 1 (scale a) = Ideal.div x (scale a) := by
  unfold Ideal.div
  rw [if_neg (scale_ne_zero a), if_neg (scale_ne_zero a), one_mul]

/-- The choice between one and the quotient, as the scale. -/
theorem scale_select (a z w : EReal) (hz : z = 0) (hw : w = 1) :
    Scalar.select (FloatOps.cmpf (F := Ideal) (φ := .f32) .oeq a z) w (Ideal.div a (lit 0x42FE0000#32)) = scale a := by
  subst hz hw
  unfold scale
  show (if BitVec.ofBool (decide (a = 0)) = 1 then _ else _) = _
  by_cases h : a = 0 <;> simp [h]

end Cert.Spec
-- ==== Proof.Link.lean ====
/-
  One block's step, in the terms of the whole computation: when the blocks are the rows `r` of the arguments, and the scratch
  buffers hold the dequantised projector and the activations, the eight results' blocks are the rows `r` of the results.

  The only laws used are those of sums (the chunks of 256 columns joined to one sum) and that multiplying with the inverse of
  a scale is dividing by it.
-/
module
public import proofs.«01_k».proof.Proof.StepOut
public import proofs.«01_k».proof.Proof.Words
@[expose] public section
set_option maxRecDepth 16384
noncomputable section
open Idealize.ShloMosaic Idealize.SL.Sem
namespace Cert.KernelIdeal.Step
open Cert.KernelIdeal Cert.KernelIdeal.Gen Cert.Spec Cert.Step

/-- The blocks `B` are rows `r` of the arguments `A`. -/
structure RowsOf (A : Inputs) (r : Fin 256 → Fin 16384) (B : Blk) : Prop where
  x0 : ∀ (t : Fin 256) (n : Fin 6144), B.x0 (ix2 t n) = A.x (ix3 ⟨t.val / 128, by omega⟩ ⟨t.val % 128, by omega⟩ n)
  x1 : ∀ t o : Fin 256, B.x1 (ix2 t o) = A.dy (ix3 ⟨t.val / 128, by omega⟩ ⟨t.val % 128, by omega⟩ (r o))
  x2 : ∀ (j : Fin 640) (n : Fin 3072), B.x2 (ix2 j n) = A.pc (ix2 j n)
  x3 : ∀ (k : Fin 24) (j : Fin 640), B.x3 (ix2 k j) = A.ps (ix2 j k)
  x4 : ∀ (k : Fin 24) (j : Fin 640), B.x4 (ix2 k j) = A.pz (ix2 j k)
  x5 : ∀ (o : Fin 256) (j : Fin 640), B.x5 (ix2 o j) = A.mc (ix2 (r o) j)
  x6 : ∀ (g : Fin 5) (o : Fin 256), B.x6 (ix2 g o) = A.ms (ix2 (r o) g)
  x7 : ∀ (o : Fin 256) (j : Fin 640), B.x7 (ix2 o j) = A.vc (ix2 (r o) j)
  x8 : ∀ (g : Fin 5) (o : Fin 256), B.x8 (ix2 g o) = A.vs (ix2 (r o) g)
  x9 : ∀ (o : Fin 256) (n : Fin 6144), B.x9 (ix2 o n) = A.wc (ix2 (r o) n)
  x10 : ∀ o : Fin 256, B.x10 (ix2 0 o) = A.ws (ix1 (r o))
  x11 : ∀ (o : Fin 256) (n : Fin 6144), B.x11 (ix2 o n) = A.sr (ix2 (r o) n)

section
variable {A : Inputs} {r : Fin 256 → Fin 16384} {B : Blk} (h : RowsOf A r B)
include h

/-- What the first point leaves in the projector's scratch buffer. -/
theorem RowsOf.proj (k : Fin 24) (j : Fin 640) (n : Fin 256) :
    projB B.x2 B.x3 B.x4 (ix3 k j n) = Spec.proj A j ⟨256 * k.val + n.val, by omega⟩ := by
  show deq (half (B.x2 (ix2 j ⟨128 * k.val + n.val / 2, by omega⟩)) (n.val % 2 = 1)) (B.x4 (ix2 k j)) (B.x3 (ix2 k j)) = _
  rw [h.x2, h.x3, h.x4, Spec.proj]
  have e1 : (⟨128 * k.val + n.val / 2, by omega⟩ : Fin 3072) = ⟨(256 * k.val + n.val) / 2, by omega⟩ :=
    Fin.ext (show 128 * k.val + n.val / 2 = (256 * k.val + n.val) / 2 by omega)
  have e2 : (⟨(256 * k.val + n.val) / 256, by omega⟩ : Fin 24) = k :=
    Fin.ext (show (256 * k.val + n.val) / 256 = k.val by omega)
  have e3 : (n.val % 2 = 1) = ((256 * k.val + n.val) % 2 = 1) := propext (by omega)
  simp only [e1, e2, e3]

/-- What the first point leaves in the activations' scratch buffer. -/
theorem RowsOf.act (k : Fin 24) (a t : Fin 256) :
    actB B.x0 (ix3 k a t) = A.x (ix3 ⟨t.val / 128, by omega⟩ ⟨t.val % 128, by omega⟩ ⟨256 * k.val + a.val, by omega⟩) :=
  h.x0 t _
end

/-- The two scratch buffers hold the projector and the activations. -/
structure Scratch (A : Inputs) (P : Vec Ideal S24x640x256 .bf16) (T : Vec Ideal S24x256x256 .bf16) : Prop where
  proj : ∀ (k : Fin 24) (j : Fin 640) (n : Fin 256), P (ix3 k j n) = Spec.proj A j ⟨256 * k.val + n.val, by omega⟩
  act : ∀ (k : Fin 24) (a t : Fin 256),
    T (ix3 k a t) = A.x (ix3 ⟨t.val / 128, by omega⟩ ⟨t.val % 128, by omega⟩ ⟨256 * k.val + a.val, by omega⟩)

/-- A sum over the columns, chunk by chunk. -/
theorem sum_chunks (f : Fin 6144 → EReal) : ∑ n, f n = ∑ k : Fin 24, ∑ n : Fin 256, f ⟨256 * k.val + n.val, by omega⟩ := by
  rw [← Equiv.sum_comp (finProdFinEquiv (m := 24) (n := 256)), Fintype.sum_prod_type]
  refine Finset.sum_congr rfl fun k _ => Finset.sum_congr rfl fun n _ => congrArg f (Fin.ext ?_)
  simp [finProdFinEquiv]; omega

section
variable {A : Inputs} {r : Fin 256 → Fin 16384} {B : Blk} {P : Vec Ideal S24x640x256 .bf16} {T : Vec Ideal S24x256x256 .bf16}
  (h : RowsOf A r B) (s : Scratch A P T)
include h s

theorem low_eq (j : Fin 640) (o : Fin 256) : lowB B.x1 P T (ix2 j o) = low A (r o) j := by
  rw [low, sum_chunks]
  show ∑ k : Fin 24, ∑ n : Fin 256, P (ix3 k j n) * ∑ t : Fin 256, T (ix3 k n t) * B.x1 (ix2 t o) = _
  refine Finset.sum_congr rfl fun k _ => Finset.sum_congr rfl fun n _ => ?_
  rw [s.proj, grad]
  refine congrArg _ (Finset.sum_congr rfl fun t _ => ?_)
  rw [s.act, h.x1]

theorem m_eq (o : Fin 256) (j : Fin 640) : B.m P T (ix2 o j) = mNew A (r o) j := by
  show moment1 (B.x5 (ix2 o j)) (B.x6 (ix2 ⟨j.val / 128, _⟩ o)) (lowB B.x1 P T (ix2 j o)) = _
  rw [low_eq h s, h.x5, h.x6, mNew]

theorem v_eq (o : Fin 256) (j : Fin 640) : B.v P T (ix2 o j) = vNew A (r o) j := by
  show moment2 (B.x7 (ix2 o j)) (B.x8 (ix2 ⟨j.val / 128, _⟩ o)) (lowB B.x1 P T (ix2 j o)) = _
  rw [low_eq h s, h.x7, h.x8, vNew]

theorem dir_eq (o : Fin 256) (j : Fin 640) : B.dir P T (ix2 o j) = nDir A (r o) j := by
  show direction (B.m P T (ix2 o j)) (B.v P T (ix2 o j)) = _
  rw [m_eq h s, v_eq h s, nDir]

theorem mScale_at (o : Fin 256) (g : Fin 5) : scaleAt (B.m P T) o g = Spec.mScale A (r o) g := by
  rw [scaleAt, Spec.mScale]
  refine congrArg scale (congrArg absMax (funext fun l => ?_))
  exact m_eq h s o _

theorem vScale_at (o : Fin 256) (g : Fin 5) : scaleAt (B.v P T) o g = Spec.vScale A (r o) g := by
  rw [scaleAt, Spec.vScale]
  refine congrArg scale (congrArg absMax (funext fun l => ?_))
  exact v_eq h s o _

theorem mScale_eq (g : Fin 5) (o : Fin 256) : B.mScale P T (ix2 g o) = Spec.mScale A (r o) g := mScale_at h s o g

theorem vScale_eq (g : Fin 5) (o : Fin 256) : B.vScale P T (ix2 g o) = Spec.vScale A (r o) g := vScale_at h s o g

theorem mCode_eq (o : Fin 256) (j : Fin 640) : B.mCode P T (ix2 o j) = Spec.mCode A (r o) j := by
  show code (B.m P T (ix2 o j)) (scaleAt (B.m P T) o ⟨j.val / 128, _⟩) = _
  rw [m_eq h s, mScale_at h s, Spec.mCode]

theorem vCode_eq (o : Fin 256) (j : Fin 640) : B.vCode P T (ix2 o j) = Spec.vCode A (r o) j := by
  show code (B.v P T (ix2 o j)) (scaleAt (B.v P T) o ⟨j.val / 128, _⟩) = _
  rw [v_eq h s, vScale_at h s, Spec.vCode]

theorem delta_eq (o : Fin 256) (n : Fin 6144) : B.delta P T (ix2 o n) = Spec.delta A (r o) n := by
  show lit 0x3A83126F#32 * ∑ j : Fin 640, B.dir P T (ix2 o j) * P (ix3 ⟨n.val / 256, by omega⟩ j ⟨n.val % 256, by omega⟩) = _
  rw [Spec.delta]
  refine congrArg _ (Finset.sum_congr rfl fun j _ => ?_)
  rw [dir_eq h s, s.proj]
  exact congrArg (fun q => nDir A (r o) j * Spec.proj A j q) (Fin.ext (by show 256 * (n.val / 256) + n.val % 256 = n.val; omega))

theorem weight_eq (o : Fin 256) (n : Fin 6144) : B.weight P T (ix2 o n) = wNew A (r o) n := by
  show num (B.x9 (ix2 o n)) * B.x10 (ix2 0 o) - B.delta P T (ix2 o n) = _
  rw [delta_eq h s, h.x9, h.x10, wNew]

theorem ws_eq (o : Fin 256) : B.ws P T o = Spec.wScale A (r o) := by
  rw [Blk.ws, Spec.wScale]
  exact congrArg scale (congrArg absMax (funext fun n => weight_eq h s o n))

theorem wScale_eq (a : Fin 1) (o : Fin 256) : B.wScale P T (ix2 a o) = Spec.wScale A (r o) := ws_eq h s o

theorem wCode_eq (o : Fin 256) (n : Fin 6144) : B.wCode P T (ix2 o n) = Spec.wCode A (r o) n := by
  show clip (Ideal.liftRound Int.floor (B.weight P T (ix2 o n) * Ideal.div 1 (B.ws P T o)
    + num ((B.x11 (ix2 o n)).setWidth 32) * lit 0x3B800000#32)) = _
  rw [weight_eq h s, ws_eq h s, h.x11, Spec.wCode, codeW, Spec.wScale, mul_inverse]
end

end Cert.KernelIdeal.Step
-- ==== Proof.Blocks.lean ====
/-
  The blocks the kernel sees, as parts of the program's arguments: the host reshapes the activations, the gradients and the
  weight's scales, and transposes the small tables of scales and zero points.
-/
module
public import proofs.«01_k».proof.Proof.Gen.KernelIdeal.Frame.Runs
public import proofs.«01_k».proof.Proof.Spec
public import Idealize.ShloMosaic.Lib.Tactic
public import Idealize.ShloMosaic.Lib.StableHlo.Run
public import Idealize.ShloMosaic.Lib.Pointwise
@[expose] public section
set_option maxRecDepth 16384
noncomputable section
open Idealize.ShloMosaic Idealize.ShloMosaic.TcCoe Idealize.SL.Sem
namespace Cert.KernelIdeal.Step
open Cert.KernelIdeal Cert.KernelIdeal.Gen Cert.Spec

variable (m : (ℓ : Loc nD τ sig) → Buf (Elt Ideal) ℓ)

/-- The twelve arguments on a core. -/
def inputs (c : Dev nD) : Inputs where
  x := m ((c.tc : Thread nD τ).loc main_arg0)
  dy := m ((c.tc : Thread nD τ).loc main_arg1)
  pc := m ((c.tc : Thread nD τ).loc main_arg2)
  ps := m ((c.tc : Thread nD τ).loc main_arg3)
  pz := m ((c.tc : Thread nD τ).loc main_arg4)
  mc := m ((c.tc : Thread nD τ).loc main_arg5)
  ms := m ((c.tc : Thread nD τ).loc main_arg6)
  vc := m ((c.tc : Thread nD τ).loc main_arg7)
  vs := m ((c.tc : Thread nD τ).loc main_arg8)
  wc := m ((c.tc : Thread nD τ).loc main_arg9)
  ws := m ((c.tc : Thread nD τ).loc main_arg10)
  sr := m ((c.tc : Thread nD τ).loc main_arg11)

/-! ## What the host prepares -/

theorem host_x (c : Dev nD) (t : Fin 256) (n : Fin 6144) :
    V m c main_v0 (ix2 t n) = (inputs m c).x (ix3 ⟨t.val / 128, by omega⟩ ⟨t.val % 128, by omega⟩ n) := by
  have h : V m c main_v0 = shapeCast _ (inputs m c).x shapeCasts_S2x128x6144_S256x6144 := by
    show StableHlo.after hostOps0 _ (Proc.devRef .tc main_v0) = _
    after_results
    rfl
  rw [h]
  generalize (inputs m c).x = y
  pointwise []

theorem host_dy (c : Dev nD) (t : Fin 256) (n : Fin 16384) :
    V m c main_v1 (ix2 t n) = (inputs m c).dy (ix3 ⟨t.val / 128, by omega⟩ ⟨t.val % 128, by omega⟩ n) := by
  have h : V m c main_v1 = shapeCast _ (inputs m c).dy shapeCasts_S2x128x16384_S256x16384 := by
    show StableHlo.after hostOps0 _ (Proc.devRef .tc main_v1) = _
    after_results
    rfl
  rw [h]
  generalize (inputs m c).dy = y
  pointwise []

theorem host_ps (c : Dev nD) (a : Fin 24) (b : Fin 640) : V m c main_v2 (ix2 a b) = (inputs m c).ps (ix2 b a) := by
  have h : V m c main_v2 = transpose S24x640 [1, 0] (inputs m c).ps transposes_S640x24_S24x640_1_0 := by
    show StableHlo.after hostOps0 _ (Proc.devRef .tc main_v2) = _
    after_results
    rfl
  rw [h]
  generalize (inputs m c).ps = y
  pointwise []

theorem host_pz (c : Dev nD) (a : Fin 24) (b : Fin 640) : V m c main_v3 (ix2 a b) = (inputs m c).pz (ix2 b a) := by
  have h : V m c main_v3 = transpose S24x640 [1, 0] (inputs m c).pz transposes_S640x24_S24x640_1_0 := by
    show StableHlo.after hostOps0 _ (Proc.devRef .tc main_v3) = _
    after_results
    rfl
  rw [h]
  generalize (inputs m c).pz = y
  pointwise []

theorem host_ms (c : Dev nD) (a : Fin 5) (b : Fin 16384) : V m c main_v4 (ix2 a b) = (inputs m c).ms (ix2 b a) := by
  have h : V m c main_v4 = transpose S5x16384 [1, 0] (inputs m c).ms transposes_S16384x5_S5x16384_1_0 := by
    show StableHlo.after hostOps0 _ (Proc.devRef .tc main_v4) = _
    after_results
    rfl
  rw [h]
  generalize (inputs m c).ms = y
  pointwise []

theorem host_vs (c : Dev nD) (a : Fin 5) (b : Fin 16384) : V m c main_v5 (ix2 a b) = (inputs m c).vs (ix2 b a) := by
  have h : V m c main_v5 = transpose S5x16384 [1, 0] (inputs m c).vs transposes_S16384x5_S5x16384_1_0 := by
    show StableHlo.after hostOps0 _ (Proc.devRef .tc main_v5) = _
    after_results
    rfl
  rw [h]
  generalize (inputs m c).vs = y
  pointwise []

theorem host_ws (c : Dev nD) (o : Fin 16384) : V m c main_v6 (ix2 0 o) = (inputs m c).ws (ix1 o) := by
  have h : V m c main_v6 = shapeCast _ (inputs m c).ws shapeCasts_S16384_S1x16384 := by
    show StableHlo.after hostOps0 _ (Proc.devRef .tc main_v6) = _
    after_results
    rfl
  rw [h]
  generalize (inputs m c).ws = y
  pointwise []

/-! ## The blocks -/

/-- Row `o` of block `t`. -/
abbrev row (t : Fin cfg0.N) (o : Fin 256) : Fin 16384 :=
  ⟨t.val * 256 + o.val, by have := lt_of_lt_of_eq t.isLt (show cfg0.N = 64 from N_0); omega⟩

theorem index_0 : ∀ t : Fin cfg0.N, win0_0.index t (0 : Fin 2) = 0 ∧ win0_0.index t (1 : Fin 2) = 0 :=
  (by decide +kernel : ∀ t : Fin grid0.N, _)

theorem block_0 (c : Dev nD) (t : Fin cfg0.N) (a : Fin 256) (b : Fin 6144) : iblk m c 0 t (ix2 a b) = (inputs m c).x (ix3 ⟨a.val / 128, by omega⟩ ⟨a.val % 128, by omega⟩ b) := by
  obtain ⟨e0, e1⟩ := index_0 t
  have he : ((cfg0.win 0).blk t).view.emb (ix2 a b) = ix2 (a) (b) := by
    funext k
    match k with
    | ⟨0, _⟩ => exact Fin.ext (show win0_0.index t (0 : Fin 2) * 256 + 1 * (a).val = (a).val by rw [e0]; simp)
    | ⟨1, _⟩ => exact Fin.ext (show win0_0.index t (1 : Fin 2) * 6144 + 1 * b.val = (b).val by rw [e1]; simp)
  show V m c main_v0 (((cfg0.win 0).blk t).view.emb (ix2 a b)) = _
  rw [he]
  exact host_x m c _ _

theorem index_1 : ∀ t : Fin cfg0.N, win0_1.index t (0 : Fin 2) = 0 ∧ win0_1.index t (1 : Fin 2) = t.val :=
  (by decide +kernel : ∀ t : Fin grid0.N, _)

theorem block_1 (c : Dev nD) (t : Fin cfg0.N) (a : Fin 256) (b : Fin 256) : iblk m c 1 t (ix2 a b) = (inputs m c).dy (ix3 ⟨a.val / 128, by omega⟩ ⟨a.val % 128, by omega⟩ (row t b)) := by
  obtain ⟨e0, e1⟩ := index_1 t
  have he : ((cfg0.win 1).blk t).view.emb (ix2 a b) = ix2 (a) (row t b) := by
    funext k
    match k with
    | ⟨0, _⟩ => exact Fin.ext (show win0_1.index t (0 : Fin 2) * 256 + 1 * (a).val = (a).val by rw [e0]; simp)
    | ⟨1, _⟩ => exact Fin.ext (show win0_1.index t (1 : Fin 2) * 256 + 1 * b.val = (row t b).val by rw [e1]; show t.val * 256 + 1 * b.val = t.val * 256 + b.val; omega)
  show V m c main_v1 (((cfg0.win 1).blk t).view.emb (ix2 a b)) = _
  rw [he]
  exact host_dy m c _ _

theorem index_2 : ∀ t : Fin cfg0.N, win0_2.index t (0 : Fin 2) = 0 ∧ win0_2.index t (1 : Fin 2) = 0 :=
  (by decide +kernel : ∀ t : Fin grid0.N, _)

theorem block_2 (c : Dev nD) (t : Fin cfg0.N) (a : Fin 640) (b : Fin 3072) : iblk m c 2 t (ix2 a b) = (inputs m c).pc (ix2 a b) := by
  obtain ⟨e0, e1⟩ := index_2 t
  have he : ((cfg0.win 2).blk t).view.emb (ix2 a b) = ix2 (a) (b) := by
    funext k
    match k with
    | ⟨0, _⟩ => exact Fin.ext (show win0_2.index t (0 : Fin 2) * 640 + 1 * (a).val = (a).val by rw [e0]; simp)
    | ⟨1, _⟩ => exact Fin.ext (show win0_2.index t (1 : Fin 2) * 3072 + 1 * b.val = (b).val by rw [e1]; simp)
  show V m c main_arg2 (((cfg0.win 2).blk t).view.emb (ix2 a b)) = _
  rw [he]
  exact congrFun (V_main_arg2 m c) _

theorem index_3 : ∀ t : Fin cfg0.N, win0_3.index t (0 : Fin 2) = 0 ∧ win0_3.index t (1 : Fin 2) = 0 :=
  (by decide +kernel : ∀ t : Fin grid0.N, _)

theorem block_3 (c : Dev nD) (t : Fin cfg0.N) (a : Fin 24) (b : Fin 640) : iblk m c 3 t (ix2 a b) = (inputs m c).ps (ix2 b a) := by
  obtain ⟨e0, e1⟩ := index_3 t
  have he : ((cfg0.win 3).blk t).view.emb (ix2 a b) = ix2 (a) (b) := by
    funext k
    match k with
    | ⟨0, _⟩ => exact Fin.ext (show win0_3.index t (0 : Fin 2) * 24 + 1 * (a).val = (a).val by rw [e0]; simp)
    | ⟨1, _⟩ => exact Fin.ext (show win0_3.index t (1 : Fin 2) * 640 + 1 * b.val = (b).val by rw [e1]; simp)
  show V m c main_v2 (((cfg0.win 3).blk t).view.emb (ix2 a b)) = _
  rw [he]
  exact host_ps m c _ _

theorem index_4 : ∀ t : Fin cfg0.N, win0_4.index t (0 : Fin 2) = 0 ∧ win0_4.index t (1 : Fin 2) = 0 :=
  (by decide +kernel : ∀ t : Fin grid0.N, _)

theorem block_4 (c : Dev nD) (t : Fin cfg0.N) (a : Fin 24) (b : Fin 640) : iblk m c 4 t (ix2 a b) = (inputs m c).pz (ix2 b a) := by
  obtain ⟨e0, e1⟩ := index_4 t
  have he : ((cfg0.win 4).blk t).view.emb (ix2 a b) = ix2 (a) (b) := by
    funext k
    match k with
    | ⟨0, _⟩ => exact Fin.ext (show win0_4.index t (0 : Fin 2) * 24 + 1 * (a).val = (a).val by rw [e0]; simp)
    | ⟨1, _⟩ => exact Fin.ext (show win0_4.index t (1 : Fin 2) * 640 + 1 * b.val = (b).val by rw [e1]; simp)
  show V m c main_v3 (((cfg0.win 4).blk t).view.emb (ix2 a b)) = _
  rw [he]
  exact host_pz m c _ _

theorem index_5 : ∀ t : Fin cfg0.N, win0_5.index t (0 : Fin 2) = t.val ∧ win0_5.index t (1 : Fin 2) = 0 :=
  (by decide +kernel : ∀ t : Fin grid0.N, _)

theorem block_5 (c : Dev nD) (t : Fin cfg0.N) (a : Fin 256) (b : Fin 640) : iblk m c 5 t (ix2 a b) = (inputs m c).mc (ix2 (row t a) b) := by
  obtain ⟨e0, e1⟩ := index_5 t
  have he : ((cfg0.win 5).blk t).view.emb (ix2 a b) = ix2 (row t a) (b) := by
    funext k
    match k with
    | ⟨0, _⟩ => exact Fin.ext (show win0_5.index t (0 : Fin 2) * 256 + 1 * (a).val = (row t a).val by rw [e0]; show t.val * 256 + 1 * a.val = t.val * 256 + a.val; omega)
    | ⟨1, _⟩ => exact Fin.ext (show win0_5.index t (1 : Fin 2) * 640 + 1 * b.val = (b).val by rw [e1]; simp)
  show V m c main_arg5 (((cfg0.win 5).blk t).view.emb (ix2 a b)) = _
  rw [he]
  exact congrFun (V_main_arg5 m c) _

theorem index_6 : ∀ t : Fin cfg0.N, win0_6.index t (0 : Fin 2) = 0 ∧ win0_6.index t (1 : Fin 2) = t.val :=
  (by decide +kernel : ∀ t : Fin grid0.N, _)

theorem block_6 (c : Dev nD) (t : Fin cfg0.N) (a : Fin 5) (b : Fin 256) : iblk m c 6 t (ix2 a b) = (inputs m c).ms (ix2 (row t b) a) := by
  obtain ⟨e0, e1⟩ := index_6 t
  have he : ((cfg0.win 6).blk t).view.emb (ix2 a b) = ix2 (a) (row t b) := by
    funext k
    match k with
    | ⟨0, _⟩ => exact Fin.ext (show win0_6.index t (0 : Fin 2) * 5 + 1 * (a).val = (a).val by rw [e0]; simp)
    | ⟨1, _⟩ => exact Fin.ext (show win0_6.index t (1 : Fin 2) * 256 + 1 * b.val = (row t b).val by rw [e1]; show t.val * 256 + 1 * b.val = t.val * 256 + b.val; omega)
  show V m c main_v4 (((cfg0.win 6).blk t).view.emb (ix2 a b)) = _
  rw [he]
  exact host_ms m c _ _

theorem index_7 : ∀ t : Fin cfg0.N, win0_7.index t (0 : Fin 2) = t.val ∧ win0_7.index t (1 : Fin 2) = 0 :=
  (by decide +kernel : ∀ t : Fin grid0.N, _)

theorem block_7 (c : Dev nD) (t : Fin cfg0.N) (a : Fin 256) (b : Fin 640) : iblk m c 7 t (ix2 a b) = (inputs m c).vc (ix2 (row t a) b) := by
  obtain ⟨e0, e1⟩ := index_7 t
  have he : ((cfg0.win 7).blk t).view.emb (ix2 a b) = ix2 (row t a) (b) := by
    funext k
    match k with
    | ⟨0, _⟩ => exact Fin.ext (show win0_7.index t (0 : Fin 2) * 256 + 1 * (a).val = (row t a).val by rw [e0]; show t.val * 256 + 1 * a.val = t.val * 256 + a.val; omega)
    | ⟨1, _⟩ => exact Fin.ext (show win0_7.index t (1 : Fin 2) * 640 + 1 * b.val = (b).val by rw [e1]; simp)
  show V m c main_arg7 (((cfg0.win 7).blk t).view.emb (ix2 a b)) = _
  rw [he]
  exact congrFun (V_main_arg7 m c) _

theorem index_8 : ∀ t : Fin cfg0.N, win0_8.index t (0 : Fin 2) = 0 ∧ win0_8.index t (1 : Fin 2) = t.val :=
  (by decide +kernel : ∀ t : Fin grid0.N, _)

theorem block_8 (c : Dev nD) (t : Fin cfg0.N) (a : Fin 5) (b : Fin 256) : iblk m c 8 t (ix2 a b) = (inputs m c).vs (ix2 (row t b) a) := by
  obtain ⟨e0, e1⟩ := index_8 t
  have he : ((cfg0.win 8).blk t).view.emb (ix2 a b) = ix2 (a) (row t b) := by
    funext k
    match k with
    | ⟨0, _⟩ => exact Fin.ext (show win0_8.index t (0 : Fin 2) * 5 + 1 * (a).val = (a).val by rw [e0]; simp)
    | ⟨1, _⟩ => exact Fin.ext (show win0_8.index t (1 : Fin 2) * 256 + 1 * b.val = (row t b).val by rw [e1]; show t.val * 256 + 1 * b.val = t.val * 256 + b.val; omega)
  show V m c main_v5 (((cfg0.win 8).blk t).view.emb (ix2 a b)) = _
  rw [he]
  exact host_vs m c _ _

theorem index_9 : ∀ t : Fin cfg0.N, win0_9.index t (0 : Fin 2) = t.val ∧ win0_9.index t (1 : Fin 2) = 0 :=
  (by decide +kernel : ∀ t : Fin grid0.N, _)

theorem block_9 (c : Dev nD) (t : Fin cfg0.N) (a : Fin 256) (b : Fin 6144) : iblk m c 9 t (ix2 a b) = (inputs m c).wc (ix2 (row t a) b) := by
  obtain ⟨e0, e1⟩ := index_9 t
  have he : ((cfg0.win 9).blk t).view.emb (ix2 a b) = ix2 (row t a) (b) := by
    funext k
    match k with
    | ⟨0, _⟩ => exact Fin.ext (show win0_9.index t (0 : Fin 2) * 256 + 1 * (a).val = (row t a).val by rw [e0]; show t.val * 256 + 1 * a.val = t.val * 256 + a.val; omega)
    | ⟨1, _⟩ => exact Fin.ext (show win0_9.index t (1 : Fin 2) * 6144 + 1 * b.val = (b).val by rw [e1]; simp)
  show V m c main_arg9 (((cfg0.win 9).blk t).view.emb (ix2 a b)) = _
  rw [he]
  exact congrFun (V_main_arg9 m c) _

theorem index_10 : ∀ t : Fin cfg0.N, win0_10.index t (0 : Fin 2) = 0 ∧ win0_10.index t (1 : Fin 2) = t.val :=
  (by decide +kernel : ∀ t : Fin grid0.N, _)

theorem block_10 (c : Dev nD) (t : Fin cfg0.N) (b : Fin 256) : iblk m c 10 t (ix2 0 b) = (inputs m c).ws (ix1 (row t b)) := by
  obtain ⟨e0, e1⟩ := index_10 t
  have he : ((cfg0.win 10).blk t).view.emb (ix2 0 b) = ix2 ((0 : Fin 1)) (row t b) := by
    funext k
    match k with
    | ⟨0, _⟩ => exact Fin.ext (show win0_10.index t (0 : Fin 2) * 1 + 1 * ((0 : Fin 1)).val = ((0 : Fin 1)).val by rw [e0]; simp)
    | ⟨1, _⟩ => exact Fin.ext (show win0_10.index t (1 : Fin 2) * 256 + 1 * b.val = (row t b).val by rw [e1]; show t.val * 256 + 1 * b.val = t.val * 256 + b.val; omega)
  show V m c main_v6 (((cfg0.win 10).blk t).view.emb (ix2 0 b)) = _
  rw [he]
  exact host_ws m c _

theorem index_11 : ∀ t : Fin cfg0.N, win0_11.index t (0 : Fin 2) = t.val ∧ win0_11.index t (1 : Fin 2) = 0 :=
  (by decide +kernel : ∀ t : Fin grid0.N, _)

theorem block_11 (c : Dev nD) (t : Fin cfg0.N) (a : Fin 256) (b : Fin 6144) : iblk m c 11 t (ix2 a b) = (inputs m c).sr (ix2 (row t a) b) := by
  obtain ⟨e0, e1⟩ := index_11 t
  have he : ((cfg0.win 11).blk t).view.emb (ix2 a b) = ix2 (row t a) (b) := by
    funext k
    match k with
    | ⟨0, _⟩ => exact Fin.ext (show win0_11.index t (0 : Fin 2) * 256 + 1 * (a).val = (row t a).val by rw [e0]; show t.val * 256 + 1 * a.val = t.val * 256 + a.val; omega)
    | ⟨1, _⟩ => exact Fin.ext (show win0_11.index t (1 : Fin 2) * 6144 + 1 * b.val = (b).val by rw [e1]; simp)
  show V m c main_arg11 (((cfg0.win 11).blk t).view.emb (ix2 a b)) = _
  rw [he]
  exact congrFun (V_main_arg11 m c) _

end Cert.KernelIdeal.Step
-- ==== Proof.Arrays.lean ====
/-
  The eight result arrays of the kernel's run are the eight results of the specification: every block that a grid point
  writes back is the rows of that block, and the blocks tile the arrays.
-/
module
public import proofs.«01_k».proof.Proof.Region
public import proofs.«01_k».proof.Proof.Link
public import proofs.«01_k».proof.Proof.Blocks
public import Idealize.ShloMosaic.Lib.Pipeline.Value
@[expose] public section
set_option maxRecDepth 16384
noncomputable section
open Idealize.ShloMosaic Idealize.ShloMosaic.TcCoe Idealize.SL Idealize.SL.Sem

namespace Cert.KernelIdeal.Step
open Cert.KernelIdeal Cert.KernelIdeal.Gen Cert.Spec Cert.Step

variable (m : (ℓ : Loc nD τ sig) → Buf (Elt Ideal) ℓ) (ρ : Dev nD → PrngReg)

/-- The blocks at point `t` are the rows of block `t`. -/
theorem rows (c : Dev nD) (t : Fin cfg0.N) : RowsOf (inputs m c) (row t) (blk m c t) where
  x0 := block_0 m c t
  x1 := block_1 m c t
  x2 := block_2 m c t
  x3 := block_3 m c t
  x4 := block_4 m c t
  x5 := block_5 m c t
  x6 := block_6 m c t
  x7 := block_7 m c t
  x8 := block_8 m c t
  x9 := block_9 m c t
  x10 := block_10 m c t
  x11 := block_11 m c t

/-- The scratch buffers hold the projector and the activations. -/
theorem scratch (c : Dev nD) : Scratch (inputs m c) (proj0 m c) (act0 m c) :=
  ⟨(rows m c first).proj, (rows m c first).act⟩

/-! ## The arrays -/

/-- Result 1. -/
def result1 (A : Inputs) : Vec Ideal S16384x6144 .i8 := fun z => Spec.wCode A (z 0) (z 1)

theorem index_12 : ∀ t : Fin cfg0.N, win0_12.index t (0 : Fin 2) = t.val ∧ win0_12.index t (1 : Fin 2) = 0 ∧ (cfg0.win 12).flush t = true :=
  (by decide +kernel : ∀ t : Fin grid0.N, _)

theorem flushed_12 (c : Dev nD) (t : Fin cfg0.N) :
    (dats m 0 c).flushed 12 t = ((cfg0.win 12).blk t).view.read (Elt Ideal) (result1 (inputs m c)) := by
  show (cfg0.win 12).cut (grid0.coords t) ((dats m 0 c).after 12 t) = _
  rw [after0_12]
  obtain ⟨e0, e1, -⟩ := index_12 t
  funext y
  have he : ((cfg0.win 12).blk t).view.emb y = ix2 (row t (y 0)) (y 1) := by
    funext k
    match k with
    | ⟨0, _⟩ => exact Fin.ext (show win0_12.index t (0 : Fin 2) * 256 + 1 * (y 0).val = ((row t (y 0)) : Fin _).val by rw [e0]; show t.val * 256 + 1 * (y 0).val = t.val * 256 + (y 0).val; omega)
    | ⟨1, _⟩ => exact Fin.ext (show win0_12.index t (1 : Fin 2) * 6144 + 1 * (y 1).val = ((y 1) : Fin _).val by rw [e1]; simp)
  have hy : (cfg0.win 12).xinj (grid0.coords t) y = ix2 (y 0) (y 1) := by
    funext k
    match k with
    | ⟨0, _⟩ => rfl
    | ⟨1, _⟩ => rfl
  show (blk m c t).wCode (proj0 m c) (act0 m c) ((cfg0.win 12).xinj (grid0.coords t) y) = result1 (inputs m c) (((cfg0.win 12).blk t).view.emb y)
  rw [he, hy]
  exact wCode_eq (rows m c t) (scratch m c) (y 0) (y 1)

theorem mem_12 (t : Fin cfg0.N) (i : S16384x6144.Idx) :
    i ∈ ((cfg0.win 12).blk t).view.set ↔ ∀ a : Fin 2, win0_12.index t a * S256x6144.size a ≤ (i a).val ∧ (i a).val < win0_12.index t a * S256x6144.size a + S256x6144.size a := by
  show i ∈ ((View.whole main_v7_0).slice (win0_12.rect t)).set ↔ _
  rw [View.set_slice_whole, Rect.mem_set_unit]
  exact Iff.rfl

theorem final_12 (c : Dev nD) : (dats m 0 c).arrAt 12 cfg0.N = result1 (inputs m c) :=
  (dats m 0 c).arrAt_eq_of_cover 12 _ (fun t _ => flushed_12 m c t) (fun i => by
    have h0 : (i 0).val < 16384 := (i 0).isLt
    have h1 : (i 1).val < 6144 := (i 1).isLt
    obtain ⟨e0, e1, ef⟩ := index_12 ⟨(i 0).val / 256, lt_of_lt_of_eq (by omega) (show 64 = cfg0.N from N_0.symm)⟩
    refine ⟨⟨(i 0).val / 256, lt_of_lt_of_eq (by omega) (show 64 = cfg0.N from N_0.symm)⟩, ef, ?_⟩
    rw [mem_12]
    intro a
    match a with
    | ⟨0, _⟩ =>
      show win0_12.index _ (0 : Fin 2) * 256 ≤ (i 0).val ∧ (i 0).val < win0_12.index _ (0 : Fin 2) * 256 + 256
      rw [e0]; dsimp only; omega
    | ⟨1, _⟩ =>
      show win0_12.index _ (1 : Fin 2) * 6144 ≤ (i 1).val ∧ (i 1).val < win0_12.index _ (1 : Fin 2) * 6144 + 6144
      rw [e1]; dsimp only; omega)

/-- Result 2. -/
def result2 (A : Inputs) : Vec Ideal S1x16384 .f32 := fun z => Spec.wScale A (z 1)

theorem index_13 : ∀ t : Fin cfg0.N, win0_13.index t (0 : Fin 2) = 0 ∧ win0_13.index t (1 : Fin 2) = t.val ∧ (cfg0.win 13).flush t = true :=
  (by decide +kernel : ∀ t : Fin grid0.N, _)

theorem flushed_13 (c : Dev nD) (t : Fin cfg0.N) :
    (dats m 0 c).flushed 13 t = ((cfg0.win 13).blk t).view.read (Elt Ideal) (result2 (inputs m c)) := by
  show (cfg0.win 13).cut (grid0.coords t) ((dats m 0 c).after 13 t) = _
  rw [after0_13]
  obtain ⟨e0, e1, -⟩ := index_13 t
  funext y
  have he : ((cfg0.win 13).blk t).view.emb y = ix2 (y 0) (row t (y 1)) := by
    funext k
    match k with
    | ⟨0, _⟩ => exact Fin.ext (show win0_13.index t (0 : Fin 2) * 1 + 1 * (y 0).val = ((y 0) : Fin _).val by rw [e0]; simp)
    | ⟨1, _⟩ => exact Fin.ext (show win0_13.index t (1 : Fin 2) * 256 + 1 * (y 1).val = ((row t (y 1)) : Fin _).val by rw [e1]; show t.val * 256 + 1 * (y 1).val = t.val * 256 + (y 1).val; omega)
  have hy : (cfg0.win 13).xinj (grid0.coords t) y = ix2 (y 0) (y 1) := by
    funext k
    match k with
    | ⟨0, _⟩ => rfl
    | ⟨1, _⟩ => rfl
  show (blk m c t).wScale (proj0 m c) (act0 m c) ((cfg0.win 13).xinj (grid0.coords t) y) = result2 (inputs m c) (((cfg0.win 13).blk t).view.emb y)
  rw [he, hy]
  exact wScale_eq (rows m c t) (scratch m c) (y 0) (y 1)

theorem mem_13 (t : Fin cfg0.N) (i : S1x16384.Idx) :
    i ∈ ((cfg0.win 13).blk t).view.set ↔ ∀ a : Fin 2, win0_13.index t a * S1x256.size a ≤ (i a).val ∧ (i a).val < win0_13.index t a * S1x256.size a + S1x256.size a := by
  show i ∈ ((View.whole main_v7_1).slice (win0_13.rect t)).set ↔ _
  rw [View.set_slice_whole, Rect.mem_set_unit]
  exact Iff.rfl

theorem final_13 (c : Dev nD) : (dats m 0 c).arrAt 13 cfg0.N = result2 (inputs m c) :=
  (dats m 0 c).arrAt_eq_of_cover 13 _ (fun t _ => flushed_13 m c t) (fun i => by
    have h0 : (i 0).val < 1 := (i 0).isLt
    have h1 : (i 1).val < 16384 := (i 1).isLt
    obtain ⟨e0, e1, ef⟩ := index_13 ⟨(i 1).val / 256, lt_of_lt_of_eq (by omega) (show 64 = cfg0.N from N_0.symm)⟩
    refine ⟨⟨(i 1).val / 256, lt_of_lt_of_eq (by omega) (show 64 = cfg0.N from N_0.symm)⟩, ef, ?_⟩
    rw [mem_13]
    intro a
    match a with
    | ⟨0, _⟩ =>
      show win0_13.index _ (0 : Fin 2) * 1 ≤ (i 0).val ∧ (i 0).val < win0_13.index _ (0 : Fin 2) * 1 + 1
      rw [e0]; dsimp only; omega
    | ⟨1, _⟩ =>
      show win0_13.index _ (1 : Fin 2) * 256 ≤ (i 1).val ∧ (i 1).val < win0_13.index _ (1 : Fin 2) * 256 + 256
      rw [e1]; dsimp only; omega)

/-- Result 3. -/
def result3 (A : Inputs) : Vec Ideal S16384x6144 .f32 := fun z => Spec.delta A (z 0) (z 1)

theorem index_14 : ∀ t : Fin cfg0.N, win0_14.index t (0 : Fin 2) = t.val ∧ win0_14.index t (1 : Fin 2) = 0 ∧ (cfg0.win 14).flush t = true :=
  (by decide +kernel : ∀ t : Fin grid0.N, _)

theorem flushed_14 (c : Dev nD) (t : Fin cfg0.N) :
    (dats m 0 c).flushed 14 t = ((cfg0.win 14).blk t).view.read (Elt Ideal) (result3 (inputs m c)) := by
  show (cfg0.win 14).cut (grid0.coords t) ((dats m 0 c).after 14 t) = _
  rw [after0_14]
  obtain ⟨e0, e1, -⟩ := index_14 t
  funext y
  have he : ((cfg0.win 14).blk t).view.emb y = ix2 (row t (y 0)) (y 1) := by
    funext k
    match k with
    | ⟨0, _⟩ => exact Fin.ext (show win0_14.index t (0 : Fin 2) * 256 + 1 * (y 0).val = ((row t (y 0)) : Fin _).val by rw [e0]; show t.val * 256 + 1 * (y 0).val = t.val * 256 + (y 0).val; omega)
    | ⟨1, _⟩ => exact Fin.ext (show win0_14.index t (1 : Fin 2) * 6144 + 1 * (y 1).val = ((y 1) : Fin _).val by rw [e1]; simp)
  have hy : (cfg0.win 14).xinj (grid0.coords t) y = ix2 (y 0) (y 1) := by
    funext k
    match k with
    | ⟨0, _⟩ => rfl
    | ⟨1, _⟩ => rfl
  show (blk m c t).delta (proj0 m c) (act0 m c) ((cfg0.win 14).xinj (grid0.coords t) y) = result3 (inputs m c) (((cfg0.win 14).blk t).view.emb y)
  rw [he, hy]
  exact delta_eq (rows m c t) (scratch m c) (y 0) (y 1)

theorem mem_14 (t : Fin cfg0.N) (i : S16384x6144.Idx) :
    i ∈ ((cfg0.win 14).blk t).view.set ↔ ∀ a : Fin 2, win0_14.index t a * S256x6144.size a ≤ (i a).val ∧ (i a).val < win0_14.index t a * S256x6144.size a + S256x6144.size a := by
  show i ∈ ((View.whole main_v7_2).slice (win0_14.rect t)).set ↔ _
  rw [View.set_slice_whole, Rect.mem_set_unit]
  exact Iff.rfl

theorem final_14 (c : Dev nD) : (dats m 0 c).arrAt 14 cfg0.N = result3 (inputs m c) :=
  (dats m 0 c).arrAt_eq_of_cover 14 _ (fun t _ => flushed_14 m c t) (fun i => by
    have h0 : (i 0).val < 16384 := (i 0).isLt
    have h1 : (i 1).val < 6144 := (i 1).isLt
    obtain ⟨e0, e1, ef⟩ := index_14 ⟨(i 0).val / 256, lt_of_lt_of_eq (by omega) (show 64 = cfg0.N from N_0.symm)⟩
    refine ⟨⟨(i 0).val / 256, lt_of_lt_of_eq (by omega) (show 64 = cfg0.N from N_0.symm)⟩, ef, ?_⟩
    rw [mem_14]
    intro a
    match a with
    | ⟨0, _⟩ =>
      show win0_14.index _ (0 : Fin 2) * 256 ≤ (i 0).val ∧ (i 0).val < win0_14.index _ (0 : Fin 2) * 256 + 256
      rw [e0]; dsimp only; omega
    | ⟨1, _⟩ =>
      show win0_14.index _ (1 : Fin 2) * 6144 ≤ (i 1).val ∧ (i 1).val < win0_14.index _ (1 : Fin 2) * 6144 + 6144
      rw [e1]; dsimp only; omega)

/-- Result 4. -/
def result4 (A : Inputs) : Vec Ideal S16384x640 .f32 := fun z => Spec.nDir A (z 0) (z 1)

theorem index_15 : ∀ t : Fin cfg0.N, win0_15.index t (0 : Fin 2) = t.val ∧ win0_15.index t (1 : Fin 2) = 0 ∧ (cfg0.win 15).flush t = true :=
  (by decide +kernel : ∀ t : Fin grid0.N, _)

theorem flushed_15 (c : Dev nD) (t : Fin cfg0.N) :
    (dats m 0 c).flushed 15 t = ((cfg0.win 15).blk t).view.read (Elt Ideal) (result4 (inputs m c)) := by
  show (cfg0.win 15).cut (grid0.coords t) ((dats m 0 c).after 15 t) = _
  rw [after0_15]
  obtain ⟨e0, e1, -⟩ := index_15 t
  funext y
  have he : ((cfg0.win 15).blk t).view.emb y = ix2 (row t (y 0)) (y 1) := by
    funext k
    match k with
    | ⟨0, _⟩ => exact Fin.ext (show win0_15.index t (0 : Fin 2) * 256 + 1 * (y 0).val = ((row t (y 0)) : Fin _).val by rw [e0]; show t.val * 256 + 1 * (y 0).val = t.val * 256 + (y 0).val; omega)
    | ⟨1, _⟩ => exact Fin.ext (show win0_15.index t (1 : Fin 2) * 640 + 1 * (y 1).val = ((y 1) : Fin _).val by rw [e1]; simp)
  have hy : (cfg0.win 15).xinj (grid0.coords t) y = ix2 (y 0) (y 1) := by
    funext k
    match k with
    | ⟨0, _⟩ => rfl
    | ⟨1, _⟩ => rfl
  show (blk m c t).dir (proj0 m c) (act0 m c) ((cfg0.win 15).xinj (grid0.coords t) y) = result4 (inputs m c) (((cfg0.win 15).blk t).view.emb y)
  rw [he, hy]
  exact dir_eq (rows m c t) (scratch m c) (y 0) (y 1)

theorem mem_15 (t : Fin cfg0.N) (i : S16384x640.Idx) :
    i ∈ ((cfg0.win 15).blk t).view.set ↔ ∀ a : Fin 2, win0_15.index t a * S256x640.size a ≤ (i a).val ∧ (i a).val < win0_15.index t a * S256x640.size a + S256x640.size a := by
  show i ∈ ((View.whole main_v7_3).slice (win0_15.rect t)).set ↔ _
  rw [View.set_slice_whole, Rect.mem_set_unit]
  exact Iff.rfl

theorem final_15 (c : Dev nD) : (dats m 0 c).arrAt 15 cfg0.N = result4 (inputs m c) :=
  (dats m 0 c).arrAt_eq_of_cover 15 _ (fun t _ => flushed_15 m c t) (fun i => by
    have h0 : (i 0).val < 16384 := (i 0).isLt
    have h1 : (i 1).val < 640 := (i 1).isLt
    obtain ⟨e0, e1, ef⟩ := index_15 ⟨(i 0).val / 256, lt_of_lt_of_eq (by omega) (show 64 = cfg0.N from N_0.symm)⟩
    refine ⟨⟨(i 0).val / 256, lt_of_lt_of_eq (by omega) (show 64 = cfg0.N from N_0.symm)⟩, ef, ?_⟩
    rw [mem_15]
    intro a
    match a with
    | ⟨0, _⟩ =>
      show win0_15.index _ (0 : Fin 2) * 256 ≤ (i 0).val ∧ (i 0).val < win0_15.index _ (0 : Fin 2) * 256 + 256
      rw [e0]; dsimp only; omega
    | ⟨1, _⟩ =>
      show win0_15.index _ (1 : Fin 2) * 640 ≤ (i 1).val ∧ (i 1).val < win0_15.index _ (1 : Fin 2) * 640 + 640
      rw [e1]; dsimp only; omega)

/-- Result 5. -/
def result5 (A : Inputs) : Vec Ideal S16384x640 .i8 := fun z => Spec.mCode A (z 0) (z 1)

theorem index_16 : ∀ t : Fin cfg0.N, win0_16.index t (0 : Fin 2) = t.val ∧ win0_16.index t (1 : Fin 2) = 0 ∧ (cfg0.win 16).flush t = true :=
  (by decide +kernel : ∀ t : Fin grid0.N, _)

theorem flushed_16 (c : Dev nD) (t : Fin cfg0.N) :
    (dats m 0 c).flushed 16 t = ((cfg0.win 16).blk t).view.read (Elt Ideal) (result5 (inputs m c)) := by
  show (cfg0.win 16).cut (grid0.coords t) ((dats m 0 c).after 16 t) = _
  rw [after0_16]
  obtain ⟨e0, e1, -⟩ := index_16 t
  funext y
  have he : ((cfg0.win 16).blk t).view.emb y = ix2 (row t (y 0)) (y 1) := by
    funext k
    match k with
    | ⟨0, _⟩ => exact Fin.ext (show win0_16.index t (0 : Fin 2) * 256 + 1 * (y 0).val = ((row t (y 0)) : Fin _).val by rw [e0]; show t.val * 256 + 1 * (y 0).val = t.val * 256 + (y 0).val; omega)
    | ⟨1, _⟩ => exact Fin.ext (show win0_16.index t (1 : Fin 2) * 640 + 1 * (y 1).val = ((y 1) : Fin _).val by rw [e1]; simp)
  have hy : (cfg0.win 16).xinj (grid0.coords t) y = ix2 (y 0) (y 1) := by
    funext k
    match k with
    | ⟨0, _⟩ => rfl
    | ⟨1, _⟩ => rfl
  show (blk m c t).mCode (proj0 m c) (act0 m c) ((cfg0.win 16).xinj (grid0.coords t) y) = result5 (inputs m c) (((cfg0.win 16).blk t).view.emb y)
  rw [he, hy]
  exact mCode_eq (rows m c t) (scratch m c) (y 0) (y 1)

theorem mem_16 (t : Fin cfg0.N) (i : S16384x640.Idx) :
    i ∈ ((cfg0.win 16).blk t).view.set ↔ ∀ a : Fin 2, win0_16.index t a * S256x640.size a ≤ (i a).val ∧ (i a).val < win0_16.index t a * S256x640.size a + S256x640.size a := by
  show i ∈ ((View.whole main_v7_4).slice (win0_16.rect t)).set ↔ _
  rw [View.set_slice_whole, Rect.mem_set_unit]
  exact Iff.rfl

theorem final_16 (c : Dev nD) : (dats m 0 c).arrAt 16 cfg0.N = result5 (inputs m c) :=
  (dats m 0 c).arrAt_eq_of_cover 16 _ (fun t _ => flushed_16 m c t) (fun i => by
    have h0 : (i 0).val < 16384 := (i 0).isLt
    have h1 : (i 1).val < 640 := (i 1).isLt
    obtain ⟨e0, e1, ef⟩ := index_16 ⟨(i 0).val / 256, lt_of_lt_of_eq (by omega) (show 64 = cfg0.N from N_0.symm)⟩
    refine ⟨⟨(i 0).val / 256, lt_of_lt_of_eq (by omega) (show 64 = cfg0.N from N_0.symm)⟩, ef, ?_⟩
    rw [mem_16]
    intro a
    match a with
    | ⟨0, _⟩ =>
      show win0_16.index _ (0 : Fin 2) * 256 ≤ (i 0).val ∧ (i 0).val < win0_16.index _ (0 : Fin 2) * 256 + 256
      rw [e0]; dsimp only; omega
    | ⟨1, _⟩ =>
      show win0_16.index _ (1 : Fin 2) * 640 ≤ (i 1).val ∧ (i 1).val < win0_16.index _ (1 : Fin 2) * 640 + 640
      rw [e1]; dsimp only; omega)

/-- Result 6. -/
def result6 (A : Inputs) : Vec Ideal S5x16384 .f32 := fun z => Spec.mScale A (z 1) (z 0)

theorem index_17 : ∀ t : Fin cfg0.N, win0_17.index t (0 : Fin 2) = 0 ∧ win0_17.index t (1 : Fin 2) = t.val ∧ (cfg0.win 17).flush t = true :=
  (by decide +kernel : ∀ t : Fin grid0.N, _)

theorem flushed_17 (c : Dev nD) (t : Fin cfg0.N) :
    (dats m 0 c).flushed 17 t = ((cfg0.win 17).blk t).view.read (Elt Ideal) (result6 (inputs m c)) := by
  show (cfg0.win 17).cut (grid0.coords t) ((dats m 0 c).after 17 t) = _
  rw [after0_17]
  obtain ⟨e0, e1, -⟩ := index_17 t
  funext y
  have he : ((cfg0.win 17).blk t).view.emb y = ix2 (y 0) (row t (y 1)) := by
    funext k
    match k with
    | ⟨0, _⟩ => exact Fin.ext (show win0_17.index t (0 : Fin 2) * 5 + 1 * (y 0).val = ((y 0) : Fin _).val by rw [e0]; simp)
    | ⟨1, _⟩ => exact Fin.ext (show win0_17.index t (1 : Fin 2) * 256 + 1 * (y 1).val = ((row t (y 1)) : Fin _).val by rw [e1]; show t.val * 256 + 1 * (y 1).val = t.val * 256 + (y 1).val; omega)
  have hy : (cfg0.win 17).xinj (grid0.coords t) y = ix2 (y 0) (y 1) := by
    funext k
    match k with
    | ⟨0, _⟩ => rfl
    | ⟨1, _⟩ => rfl
  show (blk m c t).mScale (proj0 m c) (act0 m c) ((cfg0.win 17).xinj (grid0.coords t) y) = result6 (inputs m c) (((cfg0.win 17).blk t).view.emb y)
  rw [he, hy]
  exact mScale_eq (rows m c t) (scratch m c) (y 0) (y 1)

theorem mem_17 (t : Fin cfg0.N) (i : S5x16384.Idx) :
    i ∈ ((cfg0.win 17).blk t).view.set ↔ ∀ a : Fin 2, win0_17.index t a * S5x256.size a ≤ (i a).val ∧ (i a).val < win0_17.index t a * S5x256.size a + S5x256.size a := by
  show i ∈ ((View.whole main_v7_5).slice (win0_17.rect t)).set ↔ _
  rw [View.set_slice_whole, Rect.mem_set_unit]
  exact Iff.rfl

theorem final_17 (c : Dev nD) : (dats m 0 c).arrAt 17 cfg0.N = result6 (inputs m c) :=
  (dats m 0 c).arrAt_eq_of_cover 17 _ (fun t _ => flushed_17 m c t) (fun i => by
    have h0 : (i 0).val < 5 := (i 0).isLt
    have h1 : (i 1).val < 16384 := (i 1).isLt
    obtain ⟨e0, e1, ef⟩ := index_17 ⟨(i 1).val / 256, lt_of_lt_of_eq (by omega) (show 64 = cfg0.N from N_0.symm)⟩
    refine ⟨⟨(i 1).val / 256, lt_of_lt_of_eq (by omega) (show 64 = cfg0.N from N_0.symm)⟩, ef, ?_⟩
    rw [mem_17]
    intro a
    match a with
    | ⟨0, _⟩ =>
      show win0_17.index _ (0 : Fin 2) * 5 ≤ (i 0).val ∧ (i 0).val < win0_17.index _ (0 : Fin 2) * 5 + 5
      rw [e0]; dsimp only; omega
    | ⟨1, _⟩ =>
      show win0_17.index _ (1 : Fin 2) * 256 ≤ (i 1).val ∧ (i 1).val < win0_17.index _ (1 : Fin 2) * 256 + 256
      rw [e1]; dsimp only; omega)

/-- Result 7. -/
def result7 (A : Inputs) : Vec Ideal S16384x640 .i8 := fun z => Spec.vCode A (z 0) (z 1)

theorem index_18 : ∀ t : Fin cfg0.N, win0_18.index t (0 : Fin 2) = t.val ∧ win0_18.index t (1 : Fin 2) = 0 ∧ (cfg0.win 18).flush t = true :=
  (by decide +kernel : ∀ t : Fin grid0.N, _)

theorem flushed_18 (c : Dev nD) (t : Fin cfg0.N) :
    (dats m 0 c).flushed 18 t = ((cfg0.win 18).blk t).view.read (Elt Ideal) (result7 (inputs m c)) := by
  show (cfg0.win 18).cut (grid0.coords t) ((dats m 0 c).after 18 t) = _
  rw [after0_18]
  obtain ⟨e0, e1, -⟩ := index_18 t
  funext y
  have he : ((cfg0.win 18).blk t).view.emb y = ix2 (row t (y 0)) (y 1) := by
    funext k
    match k with
    | ⟨0, _⟩ => exact Fin.ext (show win0_18.index t (0 : Fin 2) * 256 + 1 * (y 0).val = ((row t (y 0)) : Fin _).val by rw [e0]; show t.val * 256 + 1 * (y 0).val = t.val * 256 + (y 0).val; omega)
    | ⟨1, _⟩ => exact Fin.ext (show win0_18.index t (1 : Fin 2) * 640 + 1 * (y 1).val = ((y 1) : Fin _).val by rw [e1]; simp)
  have hy : (cfg0.win 18).xinj (grid0.coords t) y = ix2 (y 0) (y 1) := by
    funext k
    match k with
    | ⟨0, _⟩ => rfl
    | ⟨1, _⟩ => rfl
  show (blk m c t).vCode (proj0 m c) (act0 m c) ((cfg0.win 18).xinj (grid0.coords t) y) = result7 (inputs m c) (((cfg0.win 18).blk t).view.emb y)
  rw [he, hy]
  exact vCode_eq (rows m c t) (scratch m c) (y 0) (y 1)

theorem mem_18 (t : Fin cfg0.N) (i : S16384x640.Idx) :
    i ∈ ((cfg0.win 18).blk t).view.set ↔ ∀ a : Fin 2, win0_18.index t a * S256x640.size a ≤ (i a).val ∧ (i a).val < win0_18.index t a * S256x640.size a + S256x640.size a := by
  show i ∈ ((View.whole main_v7_6).slice (win0_18.rect t)).set ↔ _
  rw [View.set_slice_whole, Rect.mem_set_unit]
  exact Iff.rfl

theorem final_18 (c : Dev nD) : (dats m 0 c).arrAt 18 cfg0.N = result7 (inputs m c) :=
  (dats m 0 c).arrAt_eq_of_cover 18 _ (fun t _ => flushed_18 m c t) (fun i => by
    have h0 : (i 0).val < 16384 := (i 0).isLt
    have h1 : (i 1).val < 640 := (i 1).isLt
    obtain ⟨e0, e1, ef⟩ := index_18 ⟨(i 0).val / 256, lt_of_lt_of_eq (by omega) (show 64 = cfg0.N from N_0.symm)⟩
    refine ⟨⟨(i 0).val / 256, lt_of_lt_of_eq (by omega) (show 64 = cfg0.N from N_0.symm)⟩, ef, ?_⟩
    rw [mem_18]
    intro a
    match a with
    | ⟨0, _⟩ =>
      show win0_18.index _ (0 : Fin 2) * 256 ≤ (i 0).val ∧ (i 0).val < win0_18.index _ (0 : Fin 2) * 256 + 256
      rw [e0]; dsimp only; omega
    | ⟨1, _⟩ =>
      show win0_18.index _ (1 : Fin 2) * 640 ≤ (i 1).val ∧ (i 1).val < win0_18.index _ (1 : Fin 2) * 640 + 640
      rw [e1]; dsimp only; omega)

/-- Result 8. -/
def result8 (A : Inputs) : Vec Ideal S5x16384 .f32 := fun z => Spec.vScale A (z 1) (z 0)

theorem index_19 : ∀ t : Fin cfg0.N, win0_19.index t (0 : Fin 2) = 0 ∧ win0_19.index t (1 : Fin 2) = t.val ∧ (cfg0.win 19).flush t = true :=
  (by decide +kernel : ∀ t : Fin grid0.N, _)

theorem flushed_19 (c : Dev nD) (t : Fin cfg0.N) :
    (dats m 0 c).flushed 19 t = ((cfg0.win 19).blk t).view.read (Elt Ideal) (result8 (inputs m c)) := by
  show (cfg0.win 19).cut (grid0.coords t) ((dats m 0 c).after 19 t) = _
  rw [after0_19]
  obtain ⟨e0, e1, -⟩ := index_19 t
  funext y
  have he : ((cfg0.win 19).blk t).view.emb y = ix2 (y 0) (row t (y 1)) := by
    funext k
    match k with
    | ⟨0, _⟩ => exact Fin.ext (show win0_19.index t (0 : Fin 2) * 5 + 1 * (y 0).val = ((y 0) : Fin _).val by rw [e0]; simp)
    | ⟨1, _⟩ => exact Fin.ext (show win0_19.index t (1 : Fin 2) * 256 + 1 * (y 1).val = ((row t (y 1)) : Fin _).val by rw [e1]; show t.val * 256 + 1 * (y 1).val = t.val * 256 + (y 1).val; omega)
  have hy : (cfg0.win 19).xinj (grid0.coords t) y = ix2 (y 0) (y 1) := by
    funext k
    match k with
    | ⟨0, _⟩ => rfl
    | ⟨1, _⟩ => rfl
  show (blk m c t).vScale (proj0 m c) (act0 m c) ((cfg0.win 19).xinj (grid0.coords t) y) = result8 (inputs m c) (((cfg0.win 19).blk t).view.emb y)
  rw [he, hy]
  exact vScale_eq (rows m c t) (scratch m c) (y 0) (y 1)

theorem mem_19 (t : Fin cfg0.N) (i : S5x16384.Idx) :
    i ∈ ((cfg0.win 19).blk t).view.set ↔ ∀ a : Fin 2, win0_19.index t a * S5x256.size a ≤ (i a).val ∧ (i a).val < win0_19.index t a * S5x256.size a + S5x256.size a := by
  show i ∈ ((View.whole main_v7_7).slice (win0_19.rect t)).set ↔ _
  rw [View.set_slice_whole, Rect.mem_set_unit]
  exact Iff.rfl

theorem final_19 (c : Dev nD) : (dats m 0 c).arrAt 19 cfg0.N = result8 (inputs m c) :=
  (dats m 0 c).arrAt_eq_of_cover 19 _ (fun t _ => flushed_19 m c t) (fun i => by
    have h0 : (i 0).val < 5 := (i 0).isLt
    have h1 : (i 1).val < 16384 := (i 1).isLt
    obtain ⟨e0, e1, ef⟩ := index_19 ⟨(i 1).val / 256, lt_of_lt_of_eq (by omega) (show 64 = cfg0.N from N_0.symm)⟩
    refine ⟨⟨(i 1).val / 256, lt_of_lt_of_eq (by omega) (show 64 = cfg0.N from N_0.symm)⟩, ef, ?_⟩
    rw [mem_19]
    intro a
    match a with
    | ⟨0, _⟩ =>
      show win0_19.index _ (0 : Fin 2) * 5 ≤ (i 0).val ∧ (i 0).val < win0_19.index _ (0 : Fin 2) * 5 + 5
      rw [e0]; dsimp only; omega
    | ⟨1, _⟩ =>
      show win0_19.index _ (1 : Fin 2) * 256 ≤ (i 1).val ∧ (i 1).val < win0_19.index _ (1 : Fin 2) * 256 + 256
      rw [e1]; dsimp only; omega)

/-! ## The run -/

/-- The kernel's run: the eight results are the specification's, the arguments end unchanged. -/
theorem run : θ_run defs (onTc (τ := τ) (main (F := Ideal))) ⟨m, fun _ => 0, ρ⟩ fun r => ∀ c : Dev nD,
      r.2.mem ((c.tc : Thread nD τ).loc main_v7_0) = result1 (inputs m c)
      ∧ r.2.mem ((c.tc : Thread nD τ).loc main_v7_1) = result2 (inputs m c)
      ∧ r.2.mem ((c.tc : Thread nD τ).loc main_v7_2) = result3 (inputs m c)
      ∧ r.2.mem ((c.tc : Thread nD τ).loc main_v7_3) = result4 (inputs m c)
      ∧ r.2.mem ((c.tc : Thread nD τ).loc main_v7_4) = result5 (inputs m c)
      ∧ r.2.mem ((c.tc : Thread nD τ).loc main_v7_5) = result6 (inputs m c)
      ∧ r.2.mem ((c.tc : Thread nD τ).loc main_v7_6) = result7 (inputs m c)
      ∧ r.2.mem ((c.tc : Thread nD τ).loc main_v7_7) = result8 (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 12).trans (final_12 m c),
      ((h c).1 13).trans (final_13 m c),
      ((h c).1 14).trans (final_14 m c),
      ((h c).1 15).trans (final_15 m c),
      ((h c).1 16).trans (final_16 m c),
      ((h c).1 17).trans (final_17 m c),
      ((h c).1 18).trans (final_18 m c),
      ((h c).1 19).trans (final_19 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c),
      ((h c).1 11).trans (((dats m 0 c).arrAt_in 11 rfl _).trans ((A_eq m c 11).trans (V_main_arg11 m c)))⟩)
    (run_main m ρ)

end Cert.KernelIdeal.Step
-- ==== Proof.RefLow.lean ====
/-
  The reference, first part: the gradient, the projector, the projected gradient, the two moments and the direction are the
  specification's.
-/
module

public import proofs.«01_k».proof.Proof.Gen.ReferenceIdeal.Read
public import proofs.«01_k».proof.Proof.Words
public import Idealize.ShloMosaic.Lib.Pointwise

@[expose] public section

noncomputable section

namespace Cert.ReferenceIdeal.Value

open Cert.ReferenceIdeal Cert.ReferenceIdeal.Gen Cert.ReferenceIdeal.Read Idealize.ShloMosaic Cert.Spec

variable (A : Inputs)

/-- An even column of the projector. -/
theorem proj_even (j : Fin 640) (c : Fin 3072) : proj A j ⟨2 * c.val, by omega⟩
    = (num (IntOp.andi ((A.pc (ix2 j c)).setWidth 32) 15#32) - A.pz (ix2 j ⟨c.val / 128, by omega⟩)) * A.ps (ix2 j ⟨c.val / 128, by omega⟩) := by
  have h1 : (⟨2 * c.val / 2, by omega⟩ : Fin 3072) = c := Fin.ext (by simp)
  have h2 : (⟨2 * c.val / 256, by omega⟩ : Fin 24) = ⟨c.val / 128, by omega⟩ := Fin.ext (by simp; omega)
  unfold proj deq half
  rw [if_neg (by simp)]
  simp only [h1, h2]

/-- An odd column of the projector. -/
theorem proj_odd (j : Fin 640) (c : Fin 3072) : proj A j ⟨2 * c.val + 1, by omega⟩
    = (num (((A.pc (ix2 j c)).setWidth 32).sshiftRight' 4#32) - A.pz (ix2 j ⟨c.val / 128, by omega⟩)) * A.ps (ix2 j ⟨c.val / 128, by omega⟩) := by
  have h1 : (⟨(2 * c.val + 1) / 2, by omega⟩ : Fin 3072) = c := Fin.ext (by simp; omega)
  have h2 : (⟨(2 * c.val + 1) / 256, by omega⟩ : Fin 24) = ⟨c.val / 128, by omega⟩ := Fin.ext (by simp; omega)
  unfold proj deq half
  rw [if_pos (by simp)]
  simp only [h1, h2]

/-- A sum over all the columns is the sum over the even ones and the sum over the odd ones. -/
theorem sum_halves (f : Fin 6144 → EReal) :
    ∑ n, f n = ∑ c : Fin 3072, f ⟨2 * c.val, by omega⟩ + ∑ c : Fin 3072, f ⟨2 * c.val + 1, by omega⟩ := by
  rw [← Equiv.sum_comp (finProdFinEquiv (m := 3072) (n := 2)), Fintype.sum_prod_type, ← Finset.sum_add_distrib]
  refine Finset.sum_congr rfl fun c _ => ?_
  rw [Fin.sum_univ_two]
  refine congrArg₂ (· + ·) (congrArg f (Fin.ext ?_)) (congrArg f (Fin.ext ?_))
  · simp [finProdFinEquiv]
  · simp [finProdFinEquiv]; omega

theorem ref_grad (o : Fin 16384) (n : Fin 6144) : val_main_v1 (F := Ideal) A.x A.dy (ix2 o n) = grad A o n := by
  unfold val_main_v1 val_main_v0
  pointwise []
  rw [grad, ← Fintype.sum_prod_type', ← Equiv.sum_comp (finProdFinEquiv (m := 2) (n := 128))]
  refine Finset.sum_congr rfl fun k _ => ?_
  have h1 : (⟨(finProdFinEquiv k).val / 128, by omega⟩ : Fin 2) = k.1 := Fin.ext (by simp [finProdFinEquiv]; omega)
  have h2 : (⟨(finProdFinEquiv k).val % 128, by omega⟩ : Fin 128) = k.2 := Fin.ext (by simp [finProdFinEquiv])
  rw [mul_comm]
  simp only [h1, h2]

theorem ref_even (j : Fin 640) (c : Fin 3072) : val_main_v16 (F := Ideal) A.pc A.ps A.pz (ix2 j c) = proj A j ⟨2 * c.val, by omega⟩ := by
  rw [proj_even]
  unfold val_main_v16 val_main_v15 val_main_v14 val_main_v13 val_main_v12 val_main_v11 val_main_v10 val_main_v9 val_main_v8 val_main_v7 val_main_v4 val_main_v3 val_main_v2 val_main_c
  pointwise []

theorem ref_odd (j : Fin 640) (c : Fin 3072) : val_main_v20 (F := Ideal) A.pc A.ps A.pz (ix2 j c) = proj A j ⟨2 * c.val + 1, by omega⟩ := by
  rw [proj_odd]
  unfold val_main_v20 val_main_v19 val_main_v18 val_main_v17 val_main_v12 val_main_v11 val_main_v10 val_main_v9 val_main_v8 val_main_v7 val_main_v6 val_main_v5 val_main_v2 val_main_c_0
  pointwise []
  rfl

theorem ref_low (o : Fin 16384) (j : Fin 640) : val_main_v28 (F := Ideal) A.x A.dy A.pc A.ps A.pz (ix2 o j) = low A o j := by
  have hg := ref_grad A
  have he := ref_even A
  have ho := ref_odd A
  unfold val_main_v28 val_main_v27 val_main_v26 val_main_v25 val_main_v24 val_main_v23 val_main_v22 val_main_v21
  generalize val_main_v1 (F := Ideal) A.x A.dy = y at hg ⊢
  generalize val_main_v16 (F := Ideal) A.pc A.ps A.pz = p at he ⊢
  generalize val_main_v20 (F := Ideal) A.pc A.ps A.pz = q at ho ⊢
  pointwise []
  rw [low, sum_halves]
  congr 1 <;> refine Finset.sum_congr rfl fun k _ => ?_
  · rw [← he, ← hg, mul_comm]
    exact congrArg (fun n => p (ix2 j k) * y (ix2 o n)) (Fin.ext (Nat.mul_comm k.val 2))
  · rw [← ho, ← hg, mul_comm]
    exact congrArg (fun n => q (ix2 j k) * y (ix2 o n)) (Fin.ext (congrArg (· + 1) (Nat.mul_comm k.val 2)))

theorem ref_mNew (o : Fin 16384) (j : Fin 640) : val_main_v47 (F := Ideal) A.x A.dy A.pc A.ps A.pz A.mc A.ms (ix2 o j) = mNew A o j := by
  rw [mNew, ← ref_low]
  unfold val_main_v47 val_main_v46 val_main_v45 val_main_v44 val_main_v43 val_main_v35 val_main_v34 val_main_v33 val_main_v32 val_main_v31 val_main_v30 val_main_v29 val_main_cst val_main_cst_1
  generalize val_main_v28 (F := Ideal) A.x A.dy A.pc A.ps A.pz = y
  pointwise []
  rw [moment1, ← num_signExtend]

theorem ref_vNew (o : Fin 16384) (j : Fin 640) : val_main_v53 (F := Ideal) A.x A.dy A.pc A.ps A.pz A.vc A.vs (ix2 o j) = vNew A o j := by
  rw [vNew, ← ref_low]
  unfold val_main_v53 val_main_v52 val_main_v51 val_main_v50 val_main_v49 val_main_v48 val_main_v42 val_main_v41 val_main_v40 val_main_v39 val_main_v38 val_main_v37 val_main_v36 val_main_cst_2 val_main_cst_3
  generalize val_main_v28 (F := Ideal) A.x A.dy A.pc A.ps A.pz = y
  pointwise []
  rw [moment2, ← num_signExtend]

theorem ref_nDir (o : Fin 16384) (j : Fin 640) : val_main_v61 (F := Ideal) A.x A.dy A.pc A.ps A.pz A.mc A.ms A.vc A.vs (ix2 o j) = nDir A o j := by
  rw [nDir, ← ref_mNew, ← ref_vNew]
  unfold val_main_v61 val_main_v60 val_main_v59 val_main_v58 val_main_v57 val_main_v56 val_main_v55 val_main_v54 val_main_cst_4 val_main_cst_5 val_main_cst_6
  generalize val_main_v47 (F := Ideal) A.x A.dy A.pc A.ps A.pz A.mc A.ms = y
  generalize val_main_v53 (F := Ideal) A.x A.dy A.pc A.ps A.pz A.vc A.vs = z
  pointwise []
  rfl

end Cert.ReferenceIdeal.Value
end
-- ==== Proof.RefCodes.lean ====
/-
  The reference, second part: the scales and the codes of the two moments are the specification's.
-/
module

public import proofs.«01_k».proof.Proof.RefLow

@[expose] public section

noncomputable section

namespace Cert.ReferenceIdeal.Value

open Cert.ReferenceIdeal Cert.ReferenceIdeal.Gen Cert.ReferenceIdeal.Read Idealize.ShloMosaic Cert.Spec

variable (A : Inputs)

/-- An entry's group and its place in the group. -/
theorem idx_group (o : Fin 16384) (j : Fin 640) :
    idx_main_v77 (ix2 o j) = ix3 o (⟨j.val / 128, by omega⟩ : Fin 5) (⟨j.val % 128, by omega⟩ : Fin 128) := by
  funext a
  match a with
  | ⟨0, _⟩ => exact Fin.ext (show (o.val * 640 + j.val) / 640 = o.val by omega)
  | ⟨1, _⟩ => exact Fin.ext (show (o.val * 640 + j.val) / 128 % 5 = j.val / 128 by omega)
  | ⟨2, _⟩ => exact Fin.ext (show (o.val * 640 + j.val) % 128 = j.val % 128 by omega)

/-- The way back. -/
theorem idx_entry (o : Fin 16384) (j : Fin 640) :
    idx_main_v62 (ix3 o (⟨j.val / 128, by omega⟩ : Fin 5) (⟨j.val % 128, by omega⟩ : Fin 128)) = ix2 o j := by
  funext a
  match a with
  | ⟨0, _⟩ => exact Fin.ext (show ((o.val * 5 + j.val / 128) * 128 + j.val % 128) / 640 = o.val by omega)
  | ⟨1, _⟩ => exact Fin.ext (show ((o.val * 5 + j.val / 128) * 128 + j.val % 128) % 640 = j.val by omega)

/-- The scale that belongs to a group. -/
theorem idx_scale (o : Fin 16384) (g : Fin 5) (l : Fin 128) : idx_main_v70 (idx_main_v71 (ix3 o g l)) = ix2 o g := by
  funext a
  match a with
  | ⟨0, _⟩ => rfl
  | ⟨1, _⟩ => rfl

/-! ## The first moment -/

/-- The greatest absolute value of a group of the first moment. -/
theorem ref_mMax (o : Fin 16384) (g : Fin 5) : val_main_v64 (F := Ideal) A.x A.dy A.pc A.ps A.pz A.mc A.ms (ix2 o g)
    = absMax fun l : Fin 128 => mNew A o ⟨128 * g.val + l.val, by omega⟩ := by
  have h := ref_mNew A
  unfold val_main_v64 val_main_v63 val_main_v62 val_main_cst_7
  generalize val_main_v47 (F := Ideal) A.x A.dy A.pc A.ps A.pz A.mc A.ms = y at h ⊢
  pointwise []
  unfold absMax
  simp only [← h, Nat.mul_comm 128]

/-- Its scale. -/
theorem ref_mScale (o : Fin 16384) (g : Fin 5) : val_main_v69 (F := Ideal) A.x A.dy A.pc A.ps A.pz A.mc A.ms (ix2 o g) = mScale A o g := by
  rw [val_main_v69_apply, val_main_v66_apply, val_main_v68_apply, val_main_v65_apply, val_main_v67_apply, val_main_call0_v1_apply,
    val_main_call0_v0_apply, val_main_cst_8_apply, val_main_cst_9_apply, val_main_cst_10_apply, ref_mMax]
  exact scale_select _ _ _ Ideal.ofBits_zero_f32 Ideal.ofBits_one_f32

/-- Its codes. -/
theorem ref_mCode (o : Fin 16384) (j : Fin 640) : val_main_v77 (F := Ideal) A.x A.dy A.pc A.ps A.pz A.mc A.ms (ix2 o j) = mCode A o j := by
  rw [val_main_v77_apply, val_main_v76_apply, val_main_v75_apply, val_main_v74_apply, val_main_call2_v4_apply, val_main_call2_v3_apply,
    val_main_cst_12_apply, val_main_call2_v2_apply, val_main_call2_v1_apply, val_main_call2_v0_apply, val_main_cst_11_apply,
    val_main_v73_apply, val_main_v72_apply, val_main_v71_apply, val_main_v70_apply, val_main_v62_apply]
  rw [show idx_main_v77 (ix2 o j) = _ from idx_group o j, show idx_main_v62 _ = _ from idx_entry o j,
    show idx_main_v70 (idx_main_v71 _) = _ from idx_scale o _ _, ref_mNew, ref_mScale]
  exact clip_wide _

/-! ## The second moment -/

/-- The greatest absolute value of a group of the second moment. -/
theorem ref_vMax (o : Fin 16384) (g : Fin 5) : val_main_v80 (F := Ideal) A.x A.dy A.pc A.ps A.pz A.vc A.vs (ix2 o g)
    = absMax fun l : Fin 128 => vNew A o ⟨128 * g.val + l.val, by omega⟩ := by
  have h := ref_vNew A
  unfold val_main_v80 val_main_v79 val_main_v78 val_main_cst_13
  generalize val_main_v53 (F := Ideal) A.x A.dy A.pc A.ps A.pz A.vc A.vs = y at h ⊢
  pointwise []
  unfold absMax
  simp only [← h, Nat.mul_comm 128]

/-- Its scale. -/
theorem ref_vScale (o : Fin 16384) (g : Fin 5) : val_main_v85 (F := Ideal) A.x A.dy A.pc A.ps A.pz A.vc A.vs (ix2 o g) = vScale A o g := by
  rw [val_main_v85_apply, val_main_v82_apply, val_main_v84_apply, val_main_v81_apply, val_main_v83_apply, val_main_call3_v1_apply,
    val_main_call3_v0_apply, val_main_cst_14_apply, val_main_cst_15_apply, val_main_cst_16_apply, ref_vMax]
  exact scale_select _ _ _ Ideal.ofBits_zero_f32 Ideal.ofBits_one_f32

/-- Its codes. -/
theorem ref_vCode (o : Fin 16384) (j : Fin 640) : val_main_v93 (F := Ideal) A.x A.dy A.pc A.ps A.pz A.vc A.vs (ix2 o j) = vCode A o j := by
  rw [val_main_v93_apply, val_main_v92_apply, val_main_v91_apply, val_main_v90_apply, val_main_call5_v4_apply, val_main_call5_v3_apply,
    val_main_cst_18_apply, val_main_call5_v2_apply, val_main_call5_v1_apply, val_main_call5_v0_apply, val_main_cst_17_apply,
    val_main_v89_apply, val_main_v88_apply, val_main_v87_apply, val_main_v86_apply, val_main_v78_apply]
  rw [show idx_main_v93 (ix2 o j) = _ from idx_group o j, show idx_main_v78 _ = _ from idx_entry o j,
    show idx_main_v86 (idx_main_v87 _) = _ from idx_scale o _ _, ref_vNew, ref_vScale]
  exact clip_wide _

end Cert.ReferenceIdeal.Value
end
-- ==== Proof.RefWeights.lean ====
/-
  The reference, last part: the change of the weight, the weight's scales and its codes are the specification's.
-/
module

public import proofs.«01_k».proof.Proof.RefCodes

@[expose] public section

set_option maxRecDepth 16384
noncomputable section

namespace Cert.ReferenceIdeal.Value

open Cert.ReferenceIdeal Cert.ReferenceIdeal.Gen Cert.ReferenceIdeal.Read Idealize.ShloMosaic Cert.Spec

variable (A : Inputs)

/-- The change of the weight: even and odd columns interleaved. -/
theorem ref_delta (o : Fin 16384) (n : Fin 6144) : val_main_v102 (F := Ideal) A.x A.dy A.pc A.ps A.pz A.mc A.ms A.vc A.vs (ix2 o n) = delta A o n := by
  have hn := ref_nDir A
  have he := ref_even A
  have ho := ref_odd A
  unfold val_main_v102 val_main_v101 val_main_cst_19 val_main_v100 val_main_v99 val_main_v98 val_main_v97 val_main_v96 val_main_v95 val_main_v94
  generalize val_main_v61 (F := Ideal) A.x A.dy A.pc A.ps A.pz A.mc A.ms A.vc A.vs = y at hn ⊢
  generalize val_main_v16 (F := Ideal) A.pc A.ps A.pz = p at he ⊢
  generalize val_main_v20 (F := Ideal) A.pc A.ps A.pz = q at ho ⊢
  pointwise []
  unfold delta
  refine congrArg (lit 0x3A83126F#32 * ·) ?_
  split_ifs with h
  · refine Finset.sum_congr rfl fun j _ => ?_
    rw [hn, he]
    exact congrArg (fun k => nDir A o j * proj A j k) (Fin.ext (show 2 * (n.val / 2) = n.val by omega))
  all_goals
    refine Finset.sum_congr rfl fun j _ => ?_
    rw [hn, ho]
    exact congrArg (fun k => nDir A o j * proj A j k) (Fin.ext (show 2 * (n.val / 2) + 1 = n.val by omega))

/-- The new weight. -/
theorem ref_weight (o : Fin 16384) (n : Fin 6144) : val_main_v108 (F := Ideal) A.x A.dy A.pc A.ps A.pz A.mc A.ms A.vc A.vs A.wc A.ws (ix2 o n) = wNew A o n := by
  rw [wNew, ← ref_delta, ← num_signExtend]
  unfold val_main_v108 val_main_v107 val_main_v106 val_main_v105 val_main_v104 val_main_v103
  generalize val_main_v102 (F := Ideal) A.x A.dy A.pc A.ps A.pz A.mc A.ms A.vc A.vs = y
  pointwise []

/-- The greatest absolute value of a row of the weight. -/
theorem ref_wMax (o : Fin 16384) : val_main_v110 (F := Ideal) A.x A.dy A.pc A.ps A.pz A.mc A.ms A.vc A.vs A.wc A.ws (ix1 o) = absMax (wNew A o) := by
  have h := ref_weight A
  unfold val_main_v110 val_main_v109 val_main_cst_20
  generalize val_main_v108 (F := Ideal) A.x A.dy A.pc A.ps A.pz A.mc A.ms A.vc A.vs A.wc A.ws = y at h ⊢
  pointwise []
  unfold absMax
  simp only [← h]

/-- The weight's scales. -/
theorem ref_wScale (o : Fin 16384) : val_main_v115 (F := Ideal) A.x A.dy A.pc A.ps A.pz A.mc A.ms A.vc A.vs A.wc A.ws (ix1 o) = wScale A o := by
  rw [val_main_v115_apply, val_main_v112_apply, val_main_v114_apply, val_main_v111_apply, val_main_v113_apply, val_main_call6_v1_apply,
    val_main_call6_v0_apply, val_main_cst_21_apply, val_main_cst_22_apply, val_main_cst_23_apply, ref_wMax]
  exact scale_select _ _ _ Ideal.ofBits_zero_f32 Ideal.ofBits_one_f32

/-- The scale that belongs to a row. -/
theorem idx_row (o : Fin 16384) (n : Fin 6144) : idx_main_v120 (idx_main_v121 (ix2 o n)) = ix1 o := by
  funext a
  match a with
  | ⟨0, _⟩ => rfl

/-- The weight's codes. -/
theorem ref_wCode (o : Fin 16384) (n : Fin 6144) :
    val_main_v127 (F := Ideal) A.x A.dy A.pc A.ps A.pz A.mc A.ms A.vc A.vs A.wc A.ws A.sr (ix2 o n) = wCode A o n := by
  rw [val_main_v127_apply, val_main_v126_apply, val_main_v125_apply, val_main_call7_v4_apply, val_main_call7_v3_apply,
    val_main_cst_26_apply, val_main_call7_v2_apply, val_main_call7_v1_apply, val_main_call7_v0_apply, val_main_cst_25_apply,
    val_main_v124_apply, val_main_v123_apply, val_main_v122_apply, val_main_v121_apply, val_main_v120_apply, val_main_v119_apply,
    val_main_v118_apply, val_main_v117_apply, val_main_v116_apply, val_main_cst_24_apply, idx_row, ref_weight, ref_wScale]
  exact clip_wide _

/-! ## The eight results as arrays -/

theorem ref_1 : val_main_v127 (F := Ideal) A.x A.dy A.pc A.ps A.pz A.mc A.ms A.vc A.vs A.wc A.ws A.sr = fun z => wCode A (z 0) (z 1) := by
  funext z; idx_vars z; exact ref_wCode A _ _

theorem ref_2 : val_main_v128 (F := Ideal) A.x A.dy A.pc A.ps A.pz A.mc A.ms A.vc A.vs A.wc A.ws = fun z => wScale A (z 1) := by
  funext z; idx_vars z
  refine Eq.trans ?_ (ref_wScale A z1)
  unfold val_main_v128
  generalize val_main_v115 (F := Ideal) A.x A.dy A.pc A.ps A.pz A.mc A.ms A.vc A.vs A.wc A.ws = y
  pointwise []

theorem ref_3 : val_main_v102 (F := Ideal) A.x A.dy A.pc A.ps A.pz A.mc A.ms A.vc A.vs = fun z => delta A (z 0) (z 1) := by
  funext z; idx_vars z; exact ref_delta A _ _

theorem ref_4 : val_main_v61 (F := Ideal) A.x A.dy A.pc A.ps A.pz A.mc A.ms A.vc A.vs = fun z => nDir A (z 0) (z 1) := by
  funext z; idx_vars z; exact ref_nDir A _ _

theorem ref_5 : val_main_v77 (F := Ideal) A.x A.dy A.pc A.ps A.pz A.mc A.ms = fun z => mCode A (z 0) (z 1) := by
  funext z; idx_vars z; exact ref_mCode A _ _

theorem ref_6 : val_main_v129 (F := Ideal) A.x A.dy A.pc A.ps A.pz A.mc A.ms = fun z => mScale A (z 1) (z 0) := by
  funext z; idx_vars z
  refine Eq.trans ?_ (ref_mScale A z1 z0)
  unfold val_main_v129
  generalize val_main_v69 (F := Ideal) A.x A.dy A.pc A.ps A.pz A.mc A.ms = y
  pointwise []

theorem ref_7 : val_main_v93 (F := Ideal) A.x A.dy A.pc A.ps A.pz A.vc A.vs = fun z => vCode A (z 0) (z 1) := by
  funext z; idx_vars z; exact ref_vCode A _ _

theorem ref_8 : val_main_v130 (F := Ideal) A.x A.dy A.pc A.ps A.pz A.vc A.vs = fun z => vScale A (z 1) (z 0) := by
  funext z; idx_vars z
  refine Eq.trans ?_ (ref_vScale A z1 z0)
  unfold val_main_v130
  generalize val_main_v85 (F := Ideal) A.x A.dy A.pc A.ps A.pz A.vc A.vs = y
  pointwise []

end Cert.ReferenceIdeal.Value
end
-- ==== Proof.RefRun.lean ====
/-
  The reference's run: its eight results are the specification's, its arguments end unchanged.
-/
module

public import proofs.«01_k».proof.Proof.RefWeights

@[expose] public section

set_option maxRecDepth 16384
noncomputable section

namespace Cert.ReferenceIdeal.Value

open Cert.ReferenceIdeal Cert.ReferenceIdeal.Gen Cert.ReferenceIdeal.Read Idealize.ShloMosaic Idealize.ShloMosaic.StableHlo Idealize.SL.Sem Cert.Spec

variable (m : (ℓ : Loc nD τ sig) → Buf (Elt Ideal) ℓ) (ρ : Dev nD → PrngReg)

/-- The twelve arguments on a core. -/
def inputs (c : Dev nD) : Inputs where
  x := m ((c.tc : Thread nD τ).loc main_arg0)
  dy := m ((c.tc : Thread nD τ).loc main_arg1)
  pc := m ((c.tc : Thread nD τ).loc main_arg2)
  ps := m ((c.tc : Thread nD τ).loc main_arg3)
  pz := m ((c.tc : Thread nD τ).loc main_arg4)
  mc := m ((c.tc : Thread nD τ).loc main_arg5)
  ms := m ((c.tc : Thread nD τ).loc main_arg6)
  vc := m ((c.tc : Thread nD τ).loc main_arg7)
  vs := m ((c.tc : Thread nD τ).loc main_arg8)
  wc := m ((c.tc : Thread nD τ).loc main_arg9)
  ws := m ((c.tc : Thread nD τ).loc main_arg10)
  sr := m ((c.tc : Thread nD τ).loc main_arg11)

/-- The reference's run, with the eight results named. -/
theorem run_spec : θ_run defs (onTc (τ := τ) (main (F := Ideal))) ⟨m, fun _ => 0, ρ⟩ fun r => ∀ c : Dev nD,
      r.2.mem ((c.tc : Thread nD τ).loc main_v127) = (fun z => wCode (inputs m c) (z 0) (z 1))
      ∧ r.2.mem ((c.tc : Thread nD τ).loc main_v128) = (fun z => wScale (inputs m c) (z 1))
      ∧ r.2.mem ((c.tc : Thread nD τ).loc main_v102) = (fun z => delta (inputs m c) (z 0) (z 1))
      ∧ r.2.mem ((c.tc : Thread nD τ).loc main_v61) = (fun z => nDir (inputs m c) (z 0) (z 1))
      ∧ r.2.mem ((c.tc : Thread nD τ).loc main_v77) = (fun z => mCode (inputs m c) (z 0) (z 1))
      ∧ r.2.mem ((c.tc : Thread nD τ).loc main_v129) = (fun z => mScale (inputs m c) (z 1) (z 0))
      ∧ r.2.mem ((c.tc : Thread nD τ).loc main_v93) = (fun z => vCode (inputs m c) (z 0) (z 1))
      ∧ r.2.mem ((c.tc : Thread nD τ).loc main_v130) = (fun z => vScale (inputs m c) (z 1) (z 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h1, h2, h3, h4, h5, h6, h7, h8, hk⟩ := h c
    exact ⟨h1.trans ((val_main_v127_eq (launchContents m c)).trans (ref_1 (inputs m c))),
      h2.trans ((val_main_v128_eq (launchContents m c)).trans (ref_2 (inputs m c))),
      h3.trans ((val_main_v102_eq (launchContents m c)).trans (ref_3 (inputs m c))),
      h4.trans ((val_main_v61_eq (launchContents m c)).trans (ref_4 (inputs m c))),
      h5.trans ((val_main_v77_eq (launchContents m c)).trans (ref_5 (inputs m c))),
      h6.trans ((val_main_v129_eq (launchContents m c)).trans (ref_6 (inputs m c))),
      h7.trans ((val_main_v93_eq (launchContents m c)).trans (ref_7 (inputs m c))),
      h8.trans ((val_main_v130_eq (launchContents m c)).trans (ref_8 (inputs m c))), hk⟩)
    (run (F := Ideal) m ρ)

end Cert.ReferenceIdeal.Value
-- ==== Proof.lean ====
/-
  The five claims, put together.

  * Each program runs to its end, leaves its arguments as they were and every semaphore counter at zero: for the kernel over
    bit patterns (FrameAll), for the kernel over the extended reals (Region) and for the reference (its generated run).
  * The idealized kernel is the kernel's own text (no operation was rewritten).
  * Over the extended reals the kernel (Arrays) and the reference (RefRun) both end with the eight arrays of the specification
    (Spec), which are functions of the twelve arguments.
-/
module

public import proofs.«01_k».proof.Defs
public import proofs.«01_k».proof.Proof.FrameAll
public import proofs.«01_k».proof.Proof.Arrays
public import proofs.«01_k».proof.Proof.RefRun
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference ends with its arguments unchanged and its counters at zero: it has no semaphore. -/
theorem frame_reference : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

/-- The kernel and the reference end with the same eight arrays. -/
theorem same_results : Cert.algebraic_KernelIdeal_ReferenceIdeal := by
  intro m g m' g' _ h
  have hA : ∀ c : Dev Cert.KernelIdeal.nD, Cert.ReferenceIdeal.Value.inputs m' c = Cert.KernelIdeal.Step.inputs m c := by
    intro c
    obtain ⟨h0, h1, h2, h3, h4, h5, h6, h7, h8, h9, h10, h11⟩ := h c
    unfold Cert.ReferenceIdeal.Value.inputs Cert.KernelIdeal.Step.inputs
    rw [h0, h1, h2, h3, h4, h5, h6, h7, h8, h9, h10, h11]
  refine ⟨fun c => Cert.KernelIdeal.Step.result1 (Cert.KernelIdeal.Step.inputs m c), fun c => Cert.KernelIdeal.Step.result2 (Cert.KernelIdeal.Step.inputs m c), fun c => Cert.KernelIdeal.Step.result3 (Cert.KernelIdeal.Step.inputs m c), fun c => Cert.KernelIdeal.Step.result4 (Cert.KernelIdeal.Step.inputs m c), fun c => Cert.KernelIdeal.Step.result5 (Cert.KernelIdeal.Step.inputs m c), fun c => Cert.KernelIdeal.Step.result6 (Cert.KernelIdeal.Step.inputs m c), fun c => Cert.KernelIdeal.Step.result7 (Cert.KernelIdeal.Step.inputs m c), fun c => Cert.KernelIdeal.Step.result8 (Cert.KernelIdeal.Step.inputs m c), Cert.KernelIdeal.Step.run m g,
    (θ_run Cert.ReferenceIdeal.defs _ _).mono (fun r hr c => ?_) (Cert.ReferenceIdeal.Value.run_spec m' g')⟩
  have hc := hr c
  rw [show Cert.ReferenceIdeal.Value.inputs m' c = Cert.KernelIdeal.Step.inputs m c from hA c] at hc
  exact hc

theorem claim : Cert.Claim :=
  ⟨Cert.Kernel.Gen.facts, Cert.KernelIdeal.Gen.facts, Cert.ReferenceIdeal.Gen.facts,
    fun m g _ => Cert.Kernel.Whole.frame m g, fun m g _ => Cert.KernelIdeal.Step.frame m g, frame_reference, trivial, same_results⟩

end Cert.Proof

end
